-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x512x512 : Shape := ⟨4, ![16, 3, 512, 512]⟩
abbrev S48x512x512 : Shape := ⟨3, ![48, 512, 512]⟩
abbrev S512x512 : Shape := ⟨2, ![512, 512]⟩
abbrev S_ : Shape := ⟨0, ![]⟩
abbrev S48x1x1 : Shape := ⟨3, ![48, 1, 1]⟩
abbrev S6x512x512 : Shape := ⟨3, ![6, 512, 512]⟩
abbrev S6x1x1 : Shape := ⟨3, ![6, 1, 1]⟩
abbrev S6x2560x512 : Shape := ⟨3, ![6, 2560, 512]⟩
abbrev S1x512x512 : Shape := ⟨3, ![1, 512, 512]⟩
abbrev S15360x512 : Shape := ⟨2, ![15360, 512]⟩
abbrev S1x512x256 : Shape := ⟨3, ![1, 512, 256]⟩
abbrev S512x256 : Shape := ⟨2, ![512, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 116
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S48x512x512, .f32⟩
  | .hbm, ⟨3, _⟩ => ⟨S48x512x512, .f32⟩
  | .hbm, ⟨4, _⟩ => ⟨S512x512, .i32⟩
  | .hbm, ⟨5, _⟩ => ⟨S512x512, .i32⟩
  | .hbm, ⟨6, _⟩ => ⟨S512x512, .i32⟩
  | .hbm, ⟨7, _⟩ => ⟨S_, .f32⟩
  | .hbm, ⟨8, _⟩ => ⟨S512x512, .f32⟩
  | .hbm, ⟨9, _⟩ => ⟨S_, .i32⟩
  | .hbm, ⟨10, _⟩ => ⟨S512x512, .i32⟩
  | .hbm, ⟨11, _⟩ => ⟨S512x512, .i1⟩
  | .hbm, ⟨12, _⟩ => ⟨S_, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S_, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .i32⟩
  | .hbm, ⟨37, _⟩ => ⟨S512x512, .i32⟩
  | .hbm, ⟨38, _⟩ => ⟨S512x512, .i1⟩
  | .hbm, ⟨39, _⟩ => ⟨S_, .f32⟩
  | .hbm, ⟨40, _⟩ => ⟨S512x512, .f32⟩
  | .hbm, ⟨41, _⟩ => ⟨S_, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S_, .i32⟩
  | .hbm, ⟨46, _⟩ => ⟨S512x512, .i32⟩
  | .hbm, ⟨47, _⟩ => ⟨S512x512, .i1⟩
  | .hbm, ⟨48, _⟩ => ⟨S_, .f32⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S_, .i32⟩
  | .hbm, ⟨55, _⟩ => ⟨S512x512, .i32⟩
  | .hbm, ⟨56, _⟩ => ⟨S512x512, .i1⟩
  | .hbm, ⟨57, _⟩ => ⟨S_, .f32⟩
  | .hbm, ⟨58, _⟩ => ⟨S512x512, .f32⟩
  | .hbm, ⟨59, _⟩ => ⟨S_, .f32⟩
  | .hbm, ⟨60, _⟩ => ⟨S512x512, .f32⟩
  | .hbm, ⟨61, _⟩ => ⟨S512x512, .f32⟩
  | .hbm, ⟨62, _⟩ => ⟨S512x512, .f32⟩
  | .hbm, ⟨63, _⟩ => ⟨S_, .i32⟩
  | .hbm, ⟨64, _⟩ => ⟨S512x512, .i32⟩
  | .hbm, ⟨65, _⟩ => ⟨S512x512, .i1⟩
  | .hbm, ⟨66, _⟩ => ⟨S_, .f32⟩
  | .hbm, ⟨67, _⟩ => ⟨S512x512, .f32⟩
  | .hbm, ⟨68, _⟩ => ⟨S_, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S_, .i32⟩
  | .hbm, ⟨73, _⟩ => ⟨S512x512, .i32⟩
  | .hbm, ⟨74, _⟩ => ⟨S512x512, .i1⟩
  | .hbm, ⟨75, _⟩ => ⟨S_, .f32⟩
  | .hbm, ⟨76, _⟩ => ⟨S512x512, .f32⟩
  | .hbm, ⟨77, _⟩ => ⟨S_, .f32⟩
  | .hbm, ⟨78, _⟩ => ⟨S512x512, .f32⟩
  | .hbm, ⟨79, _⟩ => ⟨S512x512, .f32⟩
  | .hbm, ⟨80, _⟩ => ⟨S512x512, .f32⟩
  | .hbm, ⟨81, _⟩ => ⟨S_, .i32⟩
  | .hbm, ⟨82, _⟩ => ⟨S512x512, .i32⟩
  | .hbm, ⟨83, _⟩ => ⟨S512x512, .i1⟩
  | .hbm, ⟨84, _⟩ => ⟨S_, .f32⟩
  | .hbm, ⟨85, _⟩ => ⟨S512x512, .f32⟩
  | .hbm, ⟨86, _⟩ => ⟨S_, .f32⟩
  | .hbm, ⟨87, _⟩ => ⟨S512x512, .f32⟩
  | .hbm, ⟨88, _⟩ => ⟨S512x512, .f32⟩
  | .hbm, ⟨89, _⟩ => ⟨S512x512, .f32⟩
  | .hbm, ⟨90, _⟩ => ⟨S_, .i32⟩
  | .hbm, ⟨91, _⟩ => ⟨S512x512, .i32⟩
  | .hbm, ⟨92, _⟩ => ⟨S512x512, .i1⟩
  | .hbm, ⟨93, _⟩ => ⟨S_, .f32⟩
  | .hbm, ⟨94, _⟩ => ⟨S512x512, .f32⟩
  | .hbm, ⟨95, _⟩ => ⟨S_, .f32⟩
  | .hbm, ⟨96, _⟩ => ⟨S512x512, .f32⟩
  | .hbm, ⟨97, _⟩ => ⟨S512x512, .f32⟩
  | .hbm, ⟨98, _⟩ => ⟨S512x512, .f32⟩
  | .hbm, ⟨99, _⟩ => ⟨S_, .i32⟩
  | .hbm, ⟨100, _⟩ => ⟨S512x512, .i32⟩
  | .hbm, ⟨101, _⟩ => ⟨S512x512, .i1⟩
  | .hbm, ⟨102, _⟩ => ⟨S_, .f32⟩
  | .hbm, ⟨103, _⟩ => ⟨S512x512, .f32⟩
  | .hbm, ⟨104, _⟩ => ⟨S_, .f32⟩
  | .hbm, ⟨105, _⟩ => ⟨S512x512, .f32⟩
  | .hbm, ⟨106, _⟩ => ⟨S512x512, .f32⟩
  | .hbm, ⟨107, _⟩ => ⟨S512x512, .f32⟩
  | .hbm, ⟨108, _⟩ => ⟨S512x512, .bf16⟩
  | .hbm, ⟨109, _⟩ => ⟨S48x1x1, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .local _ .vmem, ⟨0, _⟩ => ⟨S6x512x512, .f32⟩
  | .local _ .vmem, ⟨1, _⟩ => ⟨S6x512x512, .f32⟩
  | .local _ .vmem, ⟨2, _⟩ => ⟨S6x512x512, .f32⟩
  | .local _ .vmem, ⟨3, _⟩ => ⟨S6x512x512, .f32⟩
  | .local _ .vmem, ⟨4, _⟩ => ⟨S512x512, .bf16⟩
  | .local _ .vmem, ⟨5, _⟩ => ⟨S6x1x1, .f32⟩
  | .local _ .vmem, ⟨6, _⟩ => ⟨S6x1x1, .f32⟩
  | .local _ .vmem, ⟨7, _⟩ => ⟨S6x2560x512, .bf16⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_11 : Ref sig .tc := ⟨.hbm, 45, rfl⟩
abbrev main_v30 : Ref sig .tc := ⟨.hbm, 46, rfl⟩
abbrev main_v31 : Ref sig .tc := ⟨.hbm, 47, rfl⟩
abbrev main_cst_12 : Ref sig .tc := ⟨.hbm, 48, rfl⟩
abbrev main_v32 : Ref sig .tc := ⟨.hbm, 49, rfl⟩
abbrev main_cst_13 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_14 : Ref sig .tc := ⟨.hbm, 54, rfl⟩
abbrev main_v36 : Ref sig .tc := ⟨.hbm, 55, rfl⟩
abbrev main_v37 : Ref sig .tc := ⟨.hbm, 56, rfl⟩
abbrev main_cst_15 : Ref sig .tc := ⟨.hbm, 57, rfl⟩
abbrev main_v38 : Ref sig .tc := ⟨.hbm, 58, rfl⟩
abbrev main_cst_16 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_17 : Ref sig .tc := ⟨.hbm, 63, rfl⟩
abbrev main_v42 : Ref sig .tc := ⟨.hbm, 64, rfl⟩
abbrev main_v43 : Ref sig .tc := ⟨.hbm, 65, rfl⟩
abbrev main_cst_18 : Ref sig .tc := ⟨.hbm, 66, rfl⟩
abbrev main_v44 : Ref sig .tc := ⟨.hbm, 67, rfl⟩
abbrev main_cst_19 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_20 : Ref sig .tc := ⟨.hbm, 72, rfl⟩
abbrev main_v48 : Ref sig .tc := ⟨.hbm, 73, rfl⟩
abbrev main_v49 : Ref sig .tc := ⟨.hbm, 74, rfl⟩
abbrev main_cst_21 : Ref sig .tc := ⟨.hbm, 75, rfl⟩
abbrev main_v50 : Ref sig .tc := ⟨.hbm, 76, rfl⟩
abbrev main_cst_22 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_23 : Ref sig .tc := ⟨.hbm, 81, rfl⟩
abbrev main_v54 : Ref sig .tc := ⟨.hbm, 82, rfl⟩
abbrev main_v55 : Ref sig .tc := ⟨.hbm, 83, rfl⟩
abbrev main_cst_24 : Ref sig .tc := ⟨.hbm, 84, rfl⟩
abbrev main_v56 : Ref sig .tc := ⟨.hbm, 85, rfl⟩
abbrev main_cst_25 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_26 : Ref sig .tc := ⟨.hbm, 90, rfl⟩
abbrev main_v60 : Ref sig .tc := ⟨.hbm, 91, rfl⟩
abbrev main_v61 : Ref sig .tc := ⟨.hbm, 92, rfl⟩
abbrev main_cst_27 : Ref sig .tc := ⟨.hbm, 93, rfl⟩
abbrev main_v62 : Ref sig .tc := ⟨.hbm, 94, rfl⟩
abbrev main_cst_28 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_29 : Ref sig .tc := ⟨.hbm, 99, rfl⟩
abbrev main_v66 : Ref sig .tc := ⟨.hbm, 100, rfl⟩
abbrev main_v67 : Ref sig .tc := ⟨.hbm, 101, rfl⟩
abbrev main_cst_30 : Ref sig .tc := ⟨.hbm, 102, rfl⟩
abbrev main_v68 : Ref sig .tc := ⟨.hbm, 103, rfl⟩
abbrev main_cst_31 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_32 : Ref sig .tc := ⟨.hbm, 110, rfl⟩
abbrev main_v74 : Ref sig .tc := ⟨.hbm, 111, rfl⟩
abbrev main_cst_33 : Ref sig .tc := ⟨.hbm, 112, rfl⟩
abbrev main_v75 : Ref sig .tc := ⟨.hbm, 113, rfl⟩
abbrev main_cst_34 : Ref sig .tc := ⟨.hbm, 114, rfl⟩
abbrev main_v76 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x3x512x512 : Shape := ⟨4, ![16, 3, 512, 512]⟩
abbrev S11x11 : Shape := ⟨2, ![11, 11]⟩
abbrev S_ : Shape := ⟨0, ![]⟩
abbrev S16x3x522x522 : Shape := ⟨4, ![16, 3, 522, 522]⟩
abbrev S512 : Shape := ⟨1, ![512]⟩
abbrev S512x1 : Shape := ⟨2, ![512, 1]⟩
abbrev S11 : Shape := ⟨1, ![11]⟩
abbrev S1x11 : Shape := ⟨2, ![1, 11]⟩
abbrev S512x11 : Shape := ⟨2, ![512, 11]⟩
abbrev S512x11x1 : Shape := ⟨3, ![512, 11, 1]⟩
abbrev S16x3x512x11x522 : Shape := ⟨5, ![16, 3, 512, 11, 522]⟩
abbrev S16x3x512x11x512x11 : Shape := ⟨6, ![16, 3, 512, 11, 512, 11]⟩
abbrev S3 : Shape := ⟨1, ![3]⟩

abbrev nBuf : Space → Nat
  | .hbm => 121
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S11x11, .f32⟩
  | .hbm, ⟨3, _⟩ => ⟨S_, .i32⟩
  | .hbm, ⟨4, _⟩ => ⟨S_, .f32⟩
  | .hbm, ⟨5, _⟩ => ⟨S16x3x522x522, .f32⟩
  | .hbm, ⟨6, _⟩ => ⟨S512, .i32⟩
  | .hbm, ⟨7, _⟩ => ⟨S512x1, .i32⟩
  | .hbm, ⟨8, _⟩ => ⟨S11, .i32⟩
  | .hbm, ⟨9, _⟩ => ⟨S1x11, .i32⟩
  | .hbm, ⟨10, _⟩ => ⟨S512x11, .i32⟩
  | .hbm, ⟨11, _⟩ => ⟨S512x11, .i32⟩
  | .hbm, ⟨12, _⟩ => ⟨S512x11, .i32⟩
  | .hbm, ⟨13, _⟩ => ⟨S512x11x1, .i32⟩
  | .hbm, ⟨14, _⟩ => ⟨S16x3x512x11x522, .f32⟩
  | .hbm, ⟨15, _⟩ => ⟨S512x11x1, .i32⟩
  | .hbm, ⟨16, _⟩ => ⟨S16x3x512x11x512x11, .f32⟩
  | .hbm, ⟨17, _⟩ => ⟨S16x3x512x512, .f32⟩
  | .hbm, ⟨18, _⟩ => ⟨S_, .i32⟩
  | .hbm, ⟨19, _⟩ => ⟨S_, .f32⟩
  | .hbm, ⟨20, _⟩ => ⟨S16x3x522x522, .f32⟩
  | .hbm, ⟨21, _⟩ => ⟨S512, .i32⟩
  | .hbm, ⟨22, _⟩ => ⟨S512x1, .i32⟩
  | .hbm, ⟨23, _⟩ => ⟨S11, .i32⟩
  | .hbm, ⟨24, _⟩ => ⟨S1x11, .i32⟩
  | .hbm, ⟨25, _⟩ => ⟨S512x11, .i32⟩
  | .hbm, ⟨26, _⟩ => ⟨S512x11, .i32⟩
  | .hbm, ⟨27, _⟩ => ⟨S512x11, .i32⟩
  | .hbm, ⟨28, _⟩ => ⟨S512x11x1, .i32⟩
  | .hbm, ⟨29, _⟩ => ⟨S16x3x512x11x522, .f32⟩
  | .hbm, ⟨30, _⟩ => ⟨S512x11x1, .i32⟩
  | .hbm, ⟨31, _⟩ => ⟨S16x3x512x11x512x11, .f32⟩
  | .hbm, ⟨32, _⟩ => ⟨S16x3x512x512, .f32⟩
  | .hbm, ⟨33, _⟩ => ⟨S16x3x512x512, .f32⟩
  | .hbm, ⟨34, _⟩ => ⟨S16x3x512x512, .f32⟩
  | .hbm, ⟨35, _⟩ => ⟨S16x3x512x512, .f32⟩
  | .hbm, ⟨36, _⟩ => ⟨S16x3x512x512, .f32⟩
  | .hbm, ⟨37, _⟩ => ⟨S_, .i32⟩
  | .hbm, ⟨38, _⟩ => ⟨S_, .f32⟩
  | .hbm, ⟨39, _⟩ => ⟨S16x3x522x522, .f32⟩
  | .hbm, ⟨40, _⟩ => ⟨S512, .i32⟩
  | .hbm, ⟨41, _⟩ => ⟨S512x1, .i32⟩
  | .hbm, ⟨42, _⟩ => ⟨S11, .i32⟩
  | .hbm, ⟨43, _⟩ => ⟨S1x11, .i32⟩
  | .hbm, ⟨44, _⟩ => ⟨S512x11, .i32⟩
  | .hbm, ⟨45, _⟩ => ⟨S512x11, .i32⟩
  | .hbm, ⟨46, _⟩ => ⟨S512x11, .i32⟩
  | .hbm, ⟨47, _⟩ => ⟨S512x11x1, .i32⟩
  | .hbm, ⟨48, _⟩ => ⟨S16x3x512x11x522, .f32⟩
  | .hbm, ⟨49, _⟩ => ⟨S512x11x1, .i32⟩
  | .hbm, ⟨50, _⟩ => ⟨S16x3x512x11x512x11, .f32⟩
  | .hbm, ⟨51, _⟩ => ⟨S16x3x512x512, .f32⟩
  | .hbm, ⟨52, _⟩ => ⟨S16x3x512x512, .f32⟩
  | .hbm, ⟨53, _⟩ => ⟨S16x3x512x512, .f32⟩
  | .hbm, ⟨54, _⟩ => ⟨S_, .i32⟩
  | .hbm, ⟨55, _⟩ => ⟨S_, .f32⟩
  | .hbm, ⟨56, _⟩ => ⟨S16x3x522x522, .f32⟩
  | .hbm, ⟨57, _⟩ => ⟨S512, .i32⟩
  | .hbm, ⟨58, _⟩ => ⟨S512x1, .i32⟩
  | .hbm, ⟨59, _⟩ => ⟨S11, .i32⟩
  | .hbm, ⟨60, _⟩ => ⟨S1x11, .i32⟩
  | .hbm, ⟨61, _⟩ => ⟨S512x11, .i32⟩
  | .hbm, ⟨62, _⟩ => ⟨S512x11, .i32⟩
  | .hbm, ⟨63, _⟩ => ⟨S512x11, .i32⟩
  | .hbm, ⟨64, _⟩ => ⟨S512x11x1, .i32⟩
  | .hbm, ⟨65, _⟩ => ⟨S16x3x512x11x522, .f32⟩
  | .hbm, ⟨66, _⟩ => ⟨S512x11x1, .i32⟩
  | .hbm, ⟨67, _⟩ => ⟨S16x3x512x11x512x11, .f32⟩
  | .hbm, ⟨68, _⟩ => ⟨S16x3x512x512, .f32⟩
  | .hbm, ⟨69, _⟩ => ⟨S16x3x512x512, .f32⟩
  | .hbm, ⟨70, _⟩ => ⟨S16x3x512x512, .f32⟩
  | .hbm, ⟨71, _⟩ => ⟨S_, .i32⟩
  | .hbm, ⟨72, _⟩ => ⟨S_, .f32⟩
  | .hbm, ⟨73, _⟩ => ⟨S16x3x522x522, .f32⟩
  | .hbm, ⟨74, _⟩ => ⟨S512, .i32⟩
  | .hbm, ⟨75, _⟩ => ⟨S512x1, .i32⟩
  | .hbm, ⟨76, _⟩ => ⟨S11, .i32⟩
  | .hbm, ⟨77, _⟩ => ⟨S1x11, .i32⟩
  | .hbm, ⟨78, _⟩ => ⟨S512x11, .i32⟩
  | .hbm, ⟨79, _⟩ => ⟨S512x11, .i32⟩
  | .hbm, ⟨80, _⟩ => ⟨S512x11, .i32⟩
  | .hbm, ⟨81, _⟩ => ⟨S512x11x1, .i32⟩
  | .hbm, ⟨82, _⟩ => ⟨S16x3x512x11x522, .f32⟩
  | .hbm, ⟨83, _⟩ => ⟨S512x11x1, .i32⟩
  | .hbm, ⟨84, _⟩ => ⟨S16x3x512x11x512x11, .f32⟩
  | .hbm, ⟨85, _⟩ => ⟨S16x3x512x512, .f32⟩
  | .hbm, ⟨86, _⟩ => ⟨S16x3x512x512, .f32⟩
  | .hbm, ⟨87, _⟩ => ⟨S_, .f32⟩
  | .hbm, ⟨88, _⟩ => ⟨S16x3x512x512, .f32⟩
  | .hbm, ⟨89, _⟩ => ⟨S16x3x512x512, .f32⟩
  | .hbm, ⟨90, _⟩ => ⟨S_, .f32⟩
  | .hbm, ⟨91, _⟩ => ⟨S16x3x512x512, .f32⟩
  | .hbm, ⟨92, _⟩ => ⟨S16x3x512x512, .f32⟩
  | .hbm, ⟨93, _⟩ => ⟨S_, .f32⟩
  | .hbm, ⟨94, _⟩ => ⟨S16x3x512x512, .f32⟩
  | .hbm, ⟨95, _⟩ => ⟨S16x3x512x512, .f32⟩
  | .hbm, ⟨96, _⟩ => ⟨S_, .f32⟩
  | .hbm, ⟨97, _⟩ => ⟨S16x3x512x512, .f32⟩
  | .hbm, ⟨98, _⟩ => ⟨S16x3x512x512, .f32⟩
  | .hbm, ⟨99, _⟩ => ⟨S16x3x512x512, .f32⟩
  | .hbm, ⟨100, _⟩ => ⟨S16x3x512x512, .f32⟩
  | .hbm, ⟨101, _⟩ => ⟨S_, .f32⟩
  | .hbm, ⟨102, _⟩ => ⟨S16x3x512x512, .f32⟩
  | .hbm, ⟨103, _⟩ => ⟨S16x3x512x512, .f32⟩
  | .hbm, ⟨104, _⟩ => ⟨S16x3x512x512, .f32⟩
  | .hbm, ⟨105, _⟩ => ⟨S_, .f32⟩
  | .hbm, ⟨106, _⟩ => ⟨S16x3x512x512, .f32⟩
  | .hbm, ⟨107, _⟩ => ⟨S16x3x512x512, .f32⟩
  | .hbm, ⟨108, _⟩ => ⟨S16x3x512x512, .f32⟩
  | .hbm, ⟨109, _⟩ => ⟨S16x3x512x512, .f32⟩
  | .hbm, ⟨110, _⟩ => ⟨S_, .f32⟩
  | .hbm, ⟨111, _⟩ => ⟨S3, .f32⟩
  | .hbm, ⟨112, _⟩ => ⟨S_, .f32⟩
  | .hbm, ⟨113, _⟩ => ⟨S3, .f32⟩
  | .hbm, ⟨114, _⟩ => ⟨S3, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call1_v0 : Ref sig .tc := ⟨.hbm, 13, rfl⟩
abbrev main_v8 : Ref sig .tc := ⟨.hbm, 14, rfl⟩
abbrev main_call2_v0 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call3_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call4_v0 : Ref sig .tc := ⟨.hbm, 28, rfl⟩
abbrev main_v19 : Ref sig .tc := ⟨.hbm, 29, rfl⟩
abbrev main_call5_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_call6_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call7_v0 : Ref sig .tc := ⟨.hbm, 47, rfl⟩
abbrev main_v34 : Ref sig .tc := ⟨.hbm, 48, rfl⟩
abbrev main_call8_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_2 : Ref sig .tc := ⟨.hbm, 54, rfl⟩
abbrev main_call9_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call10_v0 : Ref sig .tc := ⟨.hbm, 64, rfl⟩
abbrev main_v47 : Ref sig .tc := ⟨.hbm, 65, rfl⟩
abbrev main_call11_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_3 : Ref sig .tc := ⟨.hbm, 71, rfl⟩
abbrev main_call12_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call13_v0 : Ref sig .tc := ⟨.hbm, 81, rfl⟩
abbrev main_v60 : Ref sig .tc := ⟨.hbm, 82, rfl⟩
abbrev main_call14_v0 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_4 : Ref sig .tc := ⟨.hbm, 87, rfl⟩
abbrev main_v64 : Ref sig .tc := ⟨.hbm, 88, rfl⟩
abbrev main_v65 : Ref sig .tc := ⟨.hbm, 89, rfl⟩
abbrev main_cst_5 : Ref sig .tc := ⟨.hbm, 90, rfl⟩
abbrev main_v66 : Ref sig .tc := ⟨.hbm, 91, rfl⟩
abbrev main_v67 : Ref sig .tc := ⟨.hbm, 92, rfl⟩
abbrev main_cst_6 : Ref sig .tc := ⟨.hbm, 93, rfl⟩
abbrev main_v68 : Ref sig .tc := ⟨.hbm, 94, rfl⟩
abbrev main_v69 : Ref sig .tc := ⟨.hbm, 95, rfl⟩
abbrev main_cst_7 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_8 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_9 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_10 : Ref sig .tc := ⟨.hbm, 110, rfl⟩
abbrev main_v81 : Ref sig .tc := ⟨.hbm, 111, rfl⟩
abbrev main_cst_11 : Ref sig .tc := ⟨.hbm, 112, rfl⟩
abbrev main_v82 : Ref sig .tc := ⟨.hbm, 113, rfl⟩
abbrev main_v83 : Ref sig .tc := ⟨.hbm, 114, rfl⟩
abbrev main_cst_12 : Ref sig .tc := ⟨.hbm, 115, rfl⟩
abbrev main_v84 : Ref sig .tc := ⟨.hbm, 116, rfl⟩
abbrev main_cst_13 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Proof.Block.lean ====
/-
  What one grid point of the kernel leaves in its output block, in terms of its input blocks: entry `g` of the block is
  the sum of the two column strips' similarity quotients, each taken from five products of the band matrix with a strip
  of the stored horizontal blur.
-/
module

public import proofs.«01_k».proof.Proof.Gen.KernelIdeal.Frame
public import Idealize.ShloMosaic.Lib.VecWindow

@[expose] public section

set_option maxRecDepth 16384

noncomputable section

namespace Cert.KernelIdeal.Block

open Idealize.ShloMosaic Idealize.ShloMosaic.TcCoe Idealize.ShloMosaic.Tactic
open Cert.KernelIdeal Cert.KernelIdeal.Gen

variable {F : FTy → Type} [FloatOps F]

/-- Image `g` of a block of six. -/
def img (x : Vec F S6x512x512 .f32) (g : Fin 6) : Vec F S1x512x512 .f32 :=
  View.ld x (Rect.unit ![g.val, 0, 0] ![1, 512, 512] (by
    intro a; fin_cases a
    · have := g.isLt; show g.val + 1 ≤ 6; omega
    · exact Nat.le_refl _
    · exact Nat.le_refl _))

/-- The band matrix as loaded. -/
def mat (x2 : Vec F S512x512 .bf16) : FVec F S512x512 .bf16 :=
  k0_pay2 (View.ld x2 (Rect.unit ![0, 0] ![512, 512] inb_S512x512_S512x512_0_0))

/-- The stored horizontal blur of the five maps of each of the six images. -/
def scr (x0 x1 : Vec F S6x512x512 .f32) (x2 : Vec F S512x512 .bf16) : FVec F S6x2560x512 .bf16 :=
  k0_pay19 (mat x2)
    (k0_pay3 (View.ld x0 (Rect.unit ![0, 0, 0] ![1, 512, 512] inb_S6x512x512_S1x512x512_0_0_0))) (k0_pay4 (View.ld x1 (Rect.unit ![0, 0, 0] ![1, 512, 512] inb_S6x512x512_S1x512x512_0_0_0)))
    (k0_pay5 (View.ld x0 (Rect.unit ![0, 0, 0] ![1, 512, 512] inb_S6x512x512_S1x512x512_0_0_0))) (k0_pay6 (View.ld x1 (Rect.unit ![0, 0, 0] ![1, 512, 512] inb_S6x512x512_S1x512x512_0_0_0)))
    (k0_pay7 (View.ld x0 (Rect.unit ![0, 0, 0] ![1, 512, 512] inb_S6x512x512_S1x512x512_0_0_0)) (View.ld x1 (Rect.unit ![0, 0, 0] ![1, 512, 512] inb_S6x512x512_S1x512x512_0_0_0)))
    (k0_pay8 (View.ld x0 (Rect.unit ![1, 0, 0] ![1, 512, 512] inb_S6x512x512_S1x512x512_1_0_0))) (k0_pay9 (View.ld x1 (Rect.unit ![1, 0, 0] ![1, 512, 512] inb_S6x512x512_S1x512x512_1_0_0)))
    (k0_pay10 (View.ld x0 (Rect.unit ![1, 0, 0] ![1, 512, 512] inb_S6x512x512_S1x512x512_1_0_0))) (k0_pay11 (View.ld x1 (Rect.unit ![1, 0, 0] ![1, 512, 512] inb_S6x512x512_S1x512x512_1_0_0)))
    (k0_pay12 (View.ld x0 (Rect.unit ![1, 0, 0] ![1, 512, 512] inb_S6x512x512_S1x512x512_1_0_0)) (View.ld x1 (Rect.unit ![1, 0, 0] ![1, 512, 512] inb_S6x512x512_S1x512x512_1_0_0)))
    (k0_pay13 (View.ld x0 (Rect.unit ![2, 0, 0] ![1, 512, 512] inb_S6x512x512_S1x512x512_2_0_0))) (k0_pay14 (View.ld x1 (Rect.unit ![2, 0, 0] ![1, 512, 512] inb_S6x512x512_S1x512x512_2_0_0)))
    (k0_pay15 (View.ld x0 (Rect.unit ![2, 0, 0] ![1, 512, 512] inb_S6x512x512_S1x512x512_2_0_0))) (k0_pay16 (View.ld x1 (Rect.unit ![2, 0, 0] ![1, 512, 512] inb_S6x512x512_S1x512x512_2_0_0)))
    (k0_pay17 (View.ld x0 (Rect.unit ![2, 0, 0] ![1, 512, 512] inb_S6x512x512_S1x512x512_2_0_0)) (View.ld x1 (Rect.unit ![2, 0, 0] ![1, 512, 512] inb_S6x512x512_S1x512x512_2_0_0)))
    (k0_pay18 (View.ld x0 (Rect.unit ![3, 0, 0] ![1, 512, 512] inb_S6x512x512_S1x512x512_3_0_0))) (View.ld x1 (Rect.unit ![3, 0, 0] ![1, 512, 512] inb_S6x512x512_S1x512x512_3_0_0))
    (View.ld x0 (Rect.unit ![4, 0, 0] ![1, 512, 512] inb_S6x512x512_S1x512x512_4_0_0)) (View.ld x1 (Rect.unit ![4, 0, 0] ![1, 512, 512] inb_S6x512x512_S1x512x512_4_0_0))
    (View.ld x0 (Rect.unit ![5, 0, 0] ![1, 512, 512] inb_S6x512x512_S1x512x512_5_0_0)) (View.ld x1 (Rect.unit ![5, 0, 0] ![1, 512, 512] inb_S6x512x512_S1x512x512_5_0_0))

/-- Strip `s` of map `q` of image `g` in the stored horizontal blur. -/
def strip (g : Fin 6) (q : Fin 5) (s : Fin 2) : Rect S6x2560x512 :=
  Rect.unit ![g.val, 512 * q.val, 256 * s.val] ![1, 512, 256] (by
    intro a; fin_cases a
    · have := g.isLt; show g.val + 1 ≤ 6; omega
    · have := q.isLt; show 512 * q.val + 512 ≤ 2560; omega
    · have := s.isLt; show 256 * s.val + 256 ≤ 512; omega)

/-- The load of a strip from the scratch the one store filled. -/
def loadStrip (h : FVec F S6x2560x512 .bf16) (g : Fin 6) (q : Fin 5) (s : Fin 2) : Vec F S1x512x256 .bf16 :=
  (View.whole cc0_scratch0).readCov (Val := Elt F)
    [(⟨Rect.unit ![0, 0, 0] ![6, 2560, 512] inb_S6x2560x512_S6x2560x512_0_0_0, h⟩ : View.Piece (Elt F) S6x2560x512 .bf16)]
    (strip g q s).toLoadRect

/-- The band matrix times a strip. -/
def prod (b : FVec F S512x512 .bf16) (l : Vec F S1x512x256 .bf16) : FVec F S512x256 .f32 :=
  matmul dot_S512x512_S512x256_S512x256_1_0_0_1_n_n none b (shapeCast S512x256 l shapeCasts_S1x512x256_S512x256)
    (constant S512x256 .f32 0x00000000#32)

/-- A number as a 512 × 256 vector. -/
def flat (w : BitVec 32) : FVec F S512x256 .f32 := broadcast S512x256 (Scalar.ofBits .f32 w : F .f32)

/-- The similarity quotient from the five blurs of a strip. -/
def ratio (p0 p1 p2 p3 p4 : FVec F S512x256 .f32) : FVec F S512x256 .f32 :=
  divf
    (mulf (addf (mulf (flat 0x40000000#32) (mulf p0 p1)) (flat 0x38D1B717#32))
      (addf (mulf (flat 0x40000000#32) (subf p4 (mulf p0 p1))) (flat 0x3A6BEDFA#32)))
    (mulf (addf (addf (mulf p0 p0) (mulf p1 p1)) (flat 0x38D1B717#32))
      (addf (addf (subf p2 (mulf p0 p0)) (subf p3 (mulf p1 p1))) (flat 0x3A6BEDFA#32)))

/-- The similarity quotient on strip `s` of image `g`. -/
def quot (b : FVec F S512x512 .bf16) (h : FVec F S6x2560x512 .bf16) (g : Fin 6) (s : Fin 2) : FVec F S512x256 .f32 :=
  ratio (prod b (loadStrip h g 0 s)) (prod b (loadStrip h g 1 s)) (prod b (loadStrip h g 2 s)) (prod b (loadStrip h g 3 s))
    (prod b (loadStrip h g 4 s))

/-- A strip's sum, as a 1 × 1 vector. -/
def total (v : FVec F S512x256 .f32) : FVec F S1x1 .f32 :=
  broadcast S1x1 (extractAt ![0, 0, 0] (shapeCast S1x1x1
    (multiReduction .add [1, 2] S1 (shapeCast S1x512x256 v shapeCasts_S512x256_S1x512x256) 0x00000000#32 reduces_S1x512x256_S1 (.inl rfl) rfl)
    shapeCasts_S1_S1x1x1) inpos_S1x1x1_p0_0_0)

/-- Entry `g` of the output block: the two strips' sums added. -/
def entry (b : FVec F S512x512 .bf16) (h : FVec F S6x2560x512 .bf16) (g : Fin 6) : FVec F S1x1x1 .f32 :=
  shapeCast S1x1x1 (addf (total (quot b h g 0)) (total (quot b h g 1))) shapeCasts_S1x1_S1x1x1

/-- The rectangle of entry `g` in the output block. -/
def cell (g : Fin 6) : Rect S6x1x1 :=
  Rect.unit ![g.val, 0, 0] ![1, 1, 1] (by
    intro a; fin_cases a
    · have := g.isLt; show g.val + 1 ≤ 6; omega
    · exact Nat.le_refl _
    · exact Nat.le_refl _)

/-- The output block after point `t` is the six entries' pieces. -/
theorem outsAt_pieces (m : (ℓ : Loc nD τ sig) → Buf (Elt F) ℓ) (c : Dev nD) (t : Fin cfg0.N) :
    outsAt0 m c t = View.canon (Val := Elt F) (s := S6x1x1) (e := .f32)
      [⟨cell 5, entry (mat (iblk m c 2 t)) (scr (iblk m c 0 t) (iblk m c 1 t) (iblk m c 2 t)) 5⟩,
       ⟨cell 4, entry (mat (iblk m c 2 t)) (scr (iblk m c 0 t) (iblk m c 1 t) (iblk m c 2 t)) 4⟩,
       ⟨cell 3, entry (mat (iblk m c 2 t)) (scr (iblk m c 0 t) (iblk m c 1 t) (iblk m c 2 t)) 3⟩,
       ⟨cell 2, entry (mat (iblk m c 2 t)) (scr (iblk m c 0 t) (iblk m c 1 t) (iblk m c 2 t)) 2⟩,
       ⟨cell 1, entry (mat (iblk m c 2 t)) (scr (iblk m c 0 t) (iblk m c 1 t) (iblk m c 2 t)) 1⟩,
       ⟨cell 0, entry (mat (iblk m c 2 t)) (scr (iblk m c 0 t) (iblk m c 1 t) (iblk m c 2 t)) 0⟩] := by
  unfold outsAt0 out0_A_3
  rw [View.read_writes_eq_canon _ _ _ (cover0_A_3 c _ _ _ _ _ _ _ _ _ _ _ _ _ _)]
  unfold kernelRun0_A
  dsimp only
  sl_unfold_words
  simp only [View.readAt_eq_ld, (hs0_0 t).read_unread, (hs0_1 t).read_unread, (hs0_2 t).read_unread]
  unfold scr mat
  generalize k0_pay19 (F := F) _ _ _ _ _ _ _ _ _ _ _ _ _ _ _ _ _ _ _ _ _ _ = h
  generalize k0_pay2 (F := F) _ = b
  refine congrArg (View.canon (Val := Elt F) (s := S6x1x1) (e := .f32)) ?_
  refine congrArg₂ List.cons ?_ (congrArg₂ List.cons ?_ (congrArg₂ List.cons ?_ (congrArg₂ List.cons ?_ (congrArg₂ List.cons ?_ (congrArg₂ List.cons ?_ rfl)))))
  · refine congrArg (Sigma.mk (cell 5)) ?_
    rfl
  · refine congrArg (Sigma.mk (cell 4)) ?_
    rfl
  · refine congrArg (Sigma.mk (cell 3)) ?_
    rfl
  · refine congrArg (Sigma.mk (cell 2)) ?_
    rfl
  · refine congrArg (Sigma.mk (cell 1)) ?_
    rfl
  · refine congrArg (Sigma.mk (cell 0)) ?_
    rfl

/-- A strip's load reads the stored horizontal blur at the strip's place. -/
theorem loadStrip_eq (h : FVec F S6x2560x512 .bf16) (g : Fin 6) (q : Fin 5) (s : Fin 2) :
    loadStrip h g q s = View.ld (Val := Elt F) (e' := .bf16) h (strip g q s) := by
  unfold loadStrip View.readCov
  rw [View.readAt_eq_ld]
  exact congrArg (fun z => View.ld (Val := Elt F) (e' := .bf16) z (strip g q s)) (View.read_writes_full _ _ _ _ _)

end Cert.KernelIdeal.Block

end
-- ==== Proof.Blur.lean ====
/-
  The blur over the extended reals: a product with the band matrix is the weighted sum of eleven neighbours of the
  zero-padded line, and the product from both sides is the weighted sum over an 11 × 11 window of the zero-padded
  image. The weights are finite and not negative, so they distribute over sums of extended reals.
-/
module

public import Idealize.ShloMosaic.PureOps
public import Idealize.ShloMosaic.Lib.Pointwise
public import Idealize.ShloMosaic.Lib.IdealHost

@[expose] public section

noncomputable section

namespace Cert.Blur

open Idealize.ShloMosaic
open scoped BigOperators

/-- The weight `u` of the blur, times 2^17. -/
def tapNum : Nat → ℕ
  | 0 => 137 | 1 => 1004 | 2 => 4672 | 3 => 14336 | 4 => 28032 | 5 => 34816
  | 6 => 27904 | 7 => 14336 | 8 => 4704 | 9 => 996 | 10 => 135
  | _ => 0

/-- The weight `u` of the blur as an extended real. -/
def tap (u : Nat) : EReal := (((tapNum u : ℝ) / 131072 : ℝ) : EReal)

/-- A weight is not negative. -/
theorem tap_nonneg (u : Nat) : 0 ≤ tap u := by
  unfold tap; exact EReal.coe_nonneg.mpr (by positivity)

/-- A finite number that is not negative distributes over a finite sum from the left. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A weight distributes over a finite sum. -/
theorem tap_mul_sum {ι : Type} (s : Finset ι) (u : Nat) (f : ι → EReal) :
    tap u * ∑ i ∈ s, f i = ∑ i ∈ s, tap u * f i :=
  coe_mul_sum s _ (by positivity) f

/-- The band matrix's entry at row `i` and column `j`: the weight of the distance, or zero. -/
def band (i j : Nat) : EReal := if i ≤ j + 5 then tap (j + 5 - i) else 0

/-- A line of 512 entries between zeros, its first entry at position 5. -/
def pad1 (f : Fin 512 → EReal) (n : Nat) : EReal := if h : 5 ≤ n ∧ n < 517 then f ⟨n - 5, by omega⟩ else 0

/-- An image of 512 × 512 entries between zeros, its first entry at row 5 and column 5. -/
def pad2 (f : Fin 512 → Fin 512 → EReal) (a b : Nat) : EReal :=
  if h : (5 ≤ a ∧ a < 517) ∧ (5 ≤ b ∧ b < 517) then f ⟨a - 5, by omega⟩ ⟨b - 5, by omega⟩ else 0

/-- The padded line at `n` as a sum over the line. -/
theorem mul_pad1_eq_sum (c : EReal) (f : Fin 512 → EReal) (n : Nat) :
    c * pad1 f n = ∑ k : Fin 512, if k.val + 5 = n then c * f k else 0 := by
  unfold pad1
  split
  · rename_i h
    rw [Finset.sum_eq_single_of_mem (⟨n - 5, by omega⟩ : Fin 512) (Finset.mem_univ _)]
    · rw [if_pos (by show n - 5 + 5 = n; omega)]
    · intro k _ hk
      rw [if_neg]
      intro e; apply hk; apply Fin.ext; show k.val = n - 5; omega
  · rename_i h
    rw [mul_zero, Finset.sum_eq_zero]
    intro k _
    rw [if_neg]
    have := k.isLt; omega

/-- A sum of at most one term: the eleven distances of column `k` from row `r`. -/
theorem sum_dist (w : Nat → EReal) (hw : ∀ u, 10 < u → w u = 0) (r k : Nat) (y : EReal) :
    (∑ u : Fin 11, if k + 5 = r + u.val then w u.val * y else 0) = (if r ≤ k + 5 then w (k + 5 - r) else 0) * y := by
  by_cases h : r ≤ k + 5
  · rw [if_pos h]
    by_cases h' : k + 5 - r < 11
    · rw [Finset.sum_eq_single_of_mem (⟨k + 5 - r, h'⟩ : Fin 11) (Finset.mem_univ _)]
      · rw [if_pos (by show k + 5 = r + (k + 5 - r); omega)]
      · intro u _ hu
        rw [if_neg]
        intro e; apply hu; apply Fin.ext; show u.val = k + 5 - r; omega
    · rw [hw _ (by omega), zero_mul, Finset.sum_eq_zero]
      intro u _
      rw [if_neg]
      have := u.isLt; omega
  · rw [if_neg h, zero_mul, Finset.sum_eq_zero]
    intro u _
    rw [if_neg]
    omega

/-- The weights end after the eleventh. -/
theorem tap_big (u : Nat) (h : 10 < u) : tap u = 0 := by
  obtain ⟨k, rfl⟩ : ∃ k, u = k + 11 := ⟨u - 11, by omega⟩
  simp [tap, tapNum]

/-- A row of the band matrix against a line: the weighted sum of the eleven neighbours of the padded line. -/
theorem sum_band_row (r : Nat) (f : Fin 512 → EReal) :
    (∑ k : Fin 512, band r k.val * f k) = ∑ u : Fin 11, tap u.val * pad1 f (r + u.val) := by
  simp only [mul_pad1_eq_sum]
  rw [Finset.sum_comm]
  refine Finset.sum_congr rfl fun k _ => ?_
  rw [sum_dist tap tap_big, band]

/-- A line against a column of the band matrix: the weighted sum of the eleven neighbours, the weights reversed. -/
theorem sum_band_col (c : Nat) (f : Fin 512 → EReal) :
    (∑ k : Fin 512, f k * band k.val c) = ∑ v : Fin 11, tap (10 - v.val) * pad1 f (c + v.val) := by
  simp only [mul_pad1_eq_sum]
  rw [Finset.sum_comm]
  refine Finset.sum_congr rfl fun k _ => ?_
  rw [band, mul_comm (f k)]
  have h := sum_dist (fun u => if u ≤ 10 then tap (10 - u) else 0) (fun u hu => if_neg (by omega)) c k.val (f k)
  refine Eq.trans ?_ (h.symm.trans (Finset.sum_congr rfl fun u _ => ?_))
  · congr 1
    by_cases h1 : c ≤ k.val + 5
    · rw [if_pos h1]
      by_cases h2 : k.val + 5 - c ≤ 10
      · rw [if_pos h2, if_pos (by omega)]; congr 1; omega
      · rw [if_neg h2]
        by_cases h3 : k.val ≤ c + 5
        · omega
        · rw [if_neg h3]
    · rw [if_neg h1]
      by_cases h3 : k.val ≤ c + 5
      · rw [if_pos h3, tap_big _ (by omega)]
      · rw [if_neg h3]
  · rw [if_pos (show u.val ≤ 10 by have := u.isLt; omega)]

/-- The window's weight at row `u` and column `v`. -/
def win (u v : Nat) : EReal := tap u * tap (10 - v)

/-- The blur of an image at row `r` and column `c`: the weighted sum over the window of the padded image. -/
def blur (x : Fin 512 → Fin 512 → EReal) (r c : Nat) : EReal :=
  ∑ u : Fin 11, ∑ v : Fin 11, pad2 x (r + u.val) (c + v.val) * win u.val v.val

/-- Padding the columns of a weighted sum of padded lines is the weighted sum over the padded image. -/
theorem pad1_sum (x : Fin 512 → Fin 512 → EReal) (c a : Nat) :
    pad1 (fun k => ∑ v : Fin 11, tap (10 - v.val) * pad1 (x k) (c + v.val)) a
      = ∑ v : Fin 11, tap (10 - v.val) * pad2 x a (c + v.val) := by
  unfold pad1 pad2
  by_cases ha : 5 ≤ a ∧ a < 517
  · rw [dif_pos ha]
    refine Finset.sum_congr rfl fun v _ => ?_
    congr 1
    by_cases hb : 5 ≤ c + v.val ∧ c + v.val < 517
    · rw [dif_pos hb, dif_pos ⟨ha, hb⟩]
    · rw [dif_neg hb, dif_neg (fun h => hb h.2)]
  · rw [dif_neg ha, Finset.sum_eq_zero]
    intro v _
    rw [dif_neg (fun h => ha h.1), mul_zero]

/-- The product of the band matrix, an image and the band matrix is the blur. -/
theorem band_band (x : Fin 512 → Fin 512 → EReal) (r c : Nat) :
    (∑ k : Fin 512, band r k.val * ∑ l : Fin 512, x k l * band l.val c) = blur x r c := by
  simp only [sum_band_col]
  rw [sum_band_row r (fun k => ∑ v : Fin 11, tap (10 - v.val) * pad1 (x k) (c + v.val))]
  unfold blur
  refine Finset.sum_congr rfl fun u _ => ?_
  rw [pad1_sum, tap_mul_sum]
  refine Finset.sum_congr rfl fun v _ => ?_
  unfold win
  rw [← mul_assoc, mul_comm]

/-- The similarity quotient of the two means and the three second moments. -/
def ssim (m1 m2 e1 e2 e12 : EReal) : EReal :=
  Ideal.div
    ((Ideal.ofBits .f32 0x40000000#32 * (m1 * m2) + Ideal.ofBits .f32 0x38D1B717#32)
      * (Ideal.ofBits .f32 0x40000000#32 * (e12 - m1 * m2) + Ideal.ofBits .f32 0x3A6BEDFA#32))
    ((m1 * m1 + m2 * m2 + Ideal.ofBits .f32 0x38D1B717#32)
      * (e1 - m1 * m1 + (e2 - m2 * m2) + Ideal.ofBits .f32 0x3A6BEDFA#32))

/-- The similarity of two images at row `r` and column `c`. -/
def simAt (x y : Fin 512 → Fin 512 → EReal) (r c : Nat) : EReal :=
  ssim (blur x r c) (blur y r c) (blur (fun i j => x i j * x i j) r c) (blur (fun i j => y i j * y i j) r c)
    (blur (fun i j => x i j * y i j) r c)

/-- The sum of the similarity of two images over all rows and columns. -/
def simSum (x y : Fin 512 → Fin 512 → EReal) : EReal := ∑ r : Fin 512, ∑ c : Fin 512, simAt x y r.val c.val

end Cert.Blur

end
-- ==== Proof.Entry.lean ====
/-
  The block's entries read over the extended reals.
-/
module

public import proofs.«01_k».proof.Proof.Block
public import proofs.«01_k».proof.Proof.Blur
public import Idealize.ShloMosaic.Lib.Pipeline.Value

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.Blur
open scoped BigOperators

/-- A loaded strip at row `k` and column `l`. -/
theorem loadStrip_apply (h : FVec Ideal S6x2560x512 .bf16) (g : Fin 6) (q : Fin 5) (s : Fin 2) (k : Fin 512) (l : Fin 256) :
    loadStrip h g q s (ix3 0 k l)
      = h (ix3 g ⟨512 * q.val + k.val, by have := q.isLt; have := k.isLt; omega⟩ ⟨256 * s.val + l.val, by have := s.isLt; have := l.isLt; omega⟩) := by
  rw [loadStrip_eq]
  show h ((strip g q s).idx (ix3 0 k l)) = _
  congr 1
  funext a
  apply Fin.ext
  fin_cases a
  · rfl
  · show 512 * q.val + 1 * k.val = 512 * q.val + k.val; omega
  · show 256 * s.val + 1 * l.val = 256 * s.val + l.val; omega

/-- The product of the band matrix's row `r` with column `l` of a loaded strip. -/
def dotStrip (b : Vec Ideal S512x512 .bf16) (h : FVec Ideal S6x2560x512 .bf16) (g : Fin 6) (q : Fin 5) (s : Fin 2)
    (r : Fin 512) (l : Fin 256) : EReal :=
  ∑ k : Fin 512, b (ix2 r k) * loadStrip h g q s (ix3 0 k l)

/-- The quotient on a strip, entry by entry. -/
theorem quot_apply (b : Vec Ideal S512x512 .bf16) (h : FVec Ideal S6x2560x512 .bf16) (g : Fin 6) (s : Fin 2) (r : Fin 512) (l : Fin 256) :
    quot b h g s (ix2 r l) = ssim (dotStrip b h g 0 s r l) (dotStrip b h g 1 s r l) (dotStrip b h g 2 s r l)
      (dotStrip b h g 3 s r l) (dotStrip b h g 4 s r l) := by
  unfold quot dotStrip ssim
  pointwise [ratio, prod, flat]

/-- The entry is the sum over both strips. -/
theorem entry_apply (b : Vec Ideal S512x512 .bf16) (h : FVec Ideal S6x2560x512 .bf16) (g : Fin 6) :
    entry b h g (ix3 0 0 0) = (∑ r : Fin 512, ∑ l : Fin 256, quot b h g 0 (ix2 r l)) + ∑ r : Fin 512, ∑ l : Fin 256, quot b h g 1 (ix2 r l) := by
  unfold entry total
  pointwise []

end Cert.KernelIdeal.Block

end
-- ==== Proof.Stack.lean ====
/-
  The stored horizontal blur read over the extended reals: map `q` of image `g` times the band matrix.
-/
module

public import proofs.«01_k».proof.Proof.Entry

@[expose] public section

set_option maxRecDepth 16384

noncomputable section

namespace Cert.KernelIdeal.Block

open Idealize.ShloMosaic Idealize.ShloMosaic.TcCoe Idealize.ShloMosaic.Tactic
open Cert.KernelIdeal Cert.KernelIdeal.Gen
open scoped BigOperators

variable {F : FTy → Type} [FloatOps F]

/-- Image `g` of a block as a rounded 512 × 512 matrix. -/
def plane (x : Vec F S6x512x512 .f32) (g : Fin 6) : FVec F S512x512 .bf16 :=
  truncf .bf16 (shapeCast S512x512 (img x g) shapeCasts_S1x512x512_S512x512) bitsLt_bf16_f32

/-- Matrix `n` of the stack: map `n % 5` of image `n / 5`. -/
def piece (x0 x1 : Vec F S6x512x512 .f32) (n : Fin 30) : FVec F S512x512 .bf16 :=
  have g : Fin 6 := ⟨n.val / 5, by have := n.isLt; omega⟩
  match n.val % 5 with
  | 0 => plane x0 g
  | 1 => plane x1 g
  | 2 => mulf (plane x0 g) (plane x0 g)
  | 3 => mulf (plane x1 g) (plane x1 g)
  | _ => mulf (plane x0 g) (plane x1 g)

/-- The thirty matrices lie along the first axis of the stack. -/
theorem stack_axis (x0 x1 : Vec F S6x512x512 .f32) :
    Shape.Concatenates ((List.ofFn fun n : Fin 30 => (⟨S512x512, piece x0 x1 n⟩ : (s : Shape) × (s.Idx → F .bf16))).map (·.1)) S15360x512 0 :=
  concatenates_S512x512_S512x512_S512x512_S512x512_S512x512_S512x512_S512x512_S512x512_S512x512_S512x512_S512x512_S512x512_S512x512_S512x512_S512x512_S512x512_S512x512_S512x512_S512x512_S512x512_S512x512_S512x512_S512x512_S512x512_S512x512_S512x512_S512x512_S512x512_S512x512_S512x512_S15360x512_d0

/-- The stack of the thirty matrices. -/
def stack (x0 x1 : Vec F S6x512x512 .f32) : FVec F S15360x512 .bf16 :=
  concatenate S15360x512 0 (List.ofFn fun n : Fin 30 => (⟨S512x512, piece x0 x1 n⟩ : (s : Shape) × (s.Idx → F .bf16))) (stack_axis x0 x1)

/-- The stored horizontal blur is the stack times the band matrix. -/
theorem scr_eq (x0 x1 : Vec F S6x512x512 .f32) (x2 : Vec F S512x512 .bf16) :
    scr x0 x1 x2 = shapeCast S6x2560x512 (shapeCast S6x2560x512 (truncf .bf16
      (matmul dot_S15360x512_S512x512_S15360x512_1_0_0_1_n_n none (stack x0 x1) (mat x2) (constant S15360x512 .f32 0x00000000#32)) bitsLt_bf16_f32)
      shapeCasts_S15360x512_S6x2560x512) shapeCasts_S6x2560x512_S6x2560x512 := by
  rfl

/-- The stack at row `512 n + k`. -/
theorem stack_apply (x0 x1 : Vec F S6x512x512 .f32) (n : Fin 30) (r : Fin 15360) (k j : Fin 512) (hr : r.val = 512 * n.val + k.val) :
    stack x0 x1 (ix2 r j) = piece x0 x1 n (ix2 k j) := by
  unfold stack
  refine concatenate_ofFn_apply (t := S15360x512) (s₁ := S512x512) (0 : Fin 2) (piece x0 x1) (stack_axis x0 x1) rfl 512 rfl (ix2 r j) n ?_ (ix2 k j) ?_ ?_
  · show r.val / 512 = n.val
    have := k.isLt; omega
  · show k.val = r.val % 512
    have := k.isLt; omega
  · intro b hb
    fin_cases b
    · exact absurd rfl hb
    · rfl

/-- Map `q` of image `g` at row `k` and column `j`. -/
def src (x0 x1 : Vec Ideal S6x512x512 .f32) (g : Fin 6) (q : Fin 5) (k j : Fin 512) : EReal :=
  match q with
  | 0 => x0 (ix3 g k j)
  | 1 => x1 (ix3 g k j)
  | 2 => x0 (ix3 g k j) * x0 (ix3 g k j)
  | 3 => x1 (ix3 g k j) * x1 (ix3 g k j)
  | 4 => x0 (ix3 g k j) * x1 (ix3 g k j)

/-- A rounded image entry is the entry. -/
theorem plane_apply (x : Vec Ideal S6x512x512 .f32) (g : Fin 6) (k j : Fin 512) : plane x g (ix2 k j) = x (ix3 g k j) := by
  unfold plane img
  pointwise []

/-- The stack's matrices are the maps. -/
theorem piece_apply (x0 x1 : Vec Ideal S6x512x512 .f32) (g : Fin 6) (q : Fin 5) (k j : Fin 512) :
    piece x0 x1 ⟨5 * g.val + q.val, by have := g.isLt; have := q.isLt; omega⟩ (ix2 k j) = src x0 x1 g q k j := by
  have hg : (5 * g.val + q.val) / 5 = g.val := by have := q.isLt; omega
  have hq : (5 * g.val + q.val) % 5 = q.val := by have := q.isLt; omega
  unfold piece src
  simp only [hg, hq]
  fin_cases q <;> simp [mulf, plane_apply]

/-- The stored horizontal blur at map `q` of image `g`, row `k`, column `l`. -/
theorem scr_apply (x0 x1 : Vec Ideal S6x512x512 .f32) (x2 : Vec Ideal S512x512 .bf16) (g : Fin 6) (q : Fin 5) (k l : Fin 512) :
    scr x0 x1 x2 (ix3 g ⟨512 * q.val + k.val, by have := q.isLt; have := k.isLt; omega⟩ l)
      = ∑ j : Fin 512, src x0 x1 g q k j * x2 (ix2 j l) := by
  rw [scr_eq]
  generalize hs : stack x0 x1 = S
  pointwise [mat, k0_pay2]
  refine Finset.sum_congr rfl fun j _ => ?_
  rw [← hs, stack_apply x0 x1 ⟨5 * g.val + q.val, by have := g.isLt; have := q.isLt; omega⟩ _ k j (by
    show g.val * 2560 + (512 * q.val + k.val) = 512 * (5 * g.val + q.val) + k.val; omega), piece_apply]

end Cert.KernelIdeal.Block

end
-- ==== Proof.Image.lean ====
/-
  One image pair's entry of a block: the sum of its similarity map.
-/
module

public import proofs.«01_k».proof.Proof.Stack

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.Blur
open scoped BigOperators

/-- The loaded band matrix at a row and a column. -/
theorem mat_apply (x2 : Vec Ideal S512x512 .bf16) (r k : Fin 512) : mat x2 (ix2 r k) = x2 (ix2 r k) := by
  unfold mat
  pointwise [k0_pay2]

/-- The vertical product of a stored strip is the blur of its map. -/
theorem dotStrip_eq (x0 x1 : Vec Ideal S6x512x512 .f32) (x2 : Vec Ideal S512x512 .bf16)
    (hx2 : ∀ i j : Fin 512, x2 (ix2 i j) = band i.val j.val) (g : Fin 6) (q : Fin 5) (s : Fin 2) (r : Fin 512) (l : Fin 256) :
    dotStrip (mat x2) (scr x0 x1 x2) g q s r l = blur (src x0 x1 g q) r.val (256 * s.val + l.val) := by
  unfold dotStrip
  rw [← band_band]
  refine Finset.sum_congr rfl fun k _ => ?_
  rw [mat_apply, hx2, loadStrip_apply, scr_apply]
  simp only [hx2]

/-- The quotient on a strip is the similarity of the two images. -/
theorem quot_eq (x0 x1 : Vec Ideal S6x512x512 .f32) (x2 : Vec Ideal S512x512 .bf16)
    (hx2 : ∀ i j : Fin 512, x2 (ix2 i j) = band i.val j.val) (g : Fin 6) (s : Fin 2) (r : Fin 512) (l : Fin 256) :
    quot (mat x2) (scr x0 x1 x2) g s (ix2 r l)
      = simAt (fun k j => x0 (ix3 g k j)) (fun k j => x1 (ix3 g k j)) r.val (256 * s.val + l.val) := by
  rw [quot_apply]
  simp only [dotStrip_eq x0 x1 x2 hx2]
  rfl

/-- A sum over `a + b` places is the sum over the first `a` and the last `b`. -/
theorem sum_split (n a b : Nat) (h : n = a + b) (f : Nat → EReal) :
    (∑ c : Fin n, f c.val) = (∑ l : Fin a, f l.val) + ∑ l : Fin b, f (a + l.val) := by
  subst h
  rw [Fin.sum_univ_add]
  rfl

/-- The similarity sum from the sums over the left and the right strip. -/
theorem simSum_strips (x y : Fin 512 → Fin 512 → EReal) (q : Fin 2 → Fin 512 → Fin 256 → EReal)
    (hq : ∀ s r l, q s r l = simAt x y r.val (256 * s.val + l.val)) :
    (∑ r : Fin 512, ∑ l : Fin 256, q 0 r l) + (∑ r : Fin 512, ∑ l : Fin 256, q 1 r l) = simSum x y := by
  rw [← Finset.sum_add_distrib]
  unfold simSum
  refine Finset.sum_congr rfl fun r _ => ?_
  rw [sum_split 512 256 256 rfl fun c => simAt x y r.val c]
  refine congrArg₂ (· + ·) (Finset.sum_congr rfl fun l _ => ?_) (Finset.sum_congr rfl fun l _ => ?_)
  · rw [hq, Fin.val_zero, Nat.mul_zero, Nat.zero_add]
  · rw [hq, Fin.val_one, Nat.mul_one]

/-- Image `g`'s entry is the sum of its similarity map. -/
theorem entry_eq (x0 x1 : Vec Ideal S6x512x512 .f32) (x2 : Vec Ideal S512x512 .bf16)
    (hx2 : ∀ i j : Fin 512, x2 (ix2 i j) = band i.val j.val) (g : Fin 6) :
    entry (mat x2) (scr x0 x1 x2) g (ix3 0 0 0)
      = simSum (fun k j => x0 (ix3 g k j)) (fun k j => x1 (ix3 g k j)) :=
  (entry_apply (mat x2) (scr x0 x1 x2) g).trans
    (simSum_strips _ _ (fun s r l => quot (mat x2) (scr x0 x1 x2) g s (ix2 r l)) fun s r l => quot_eq x0 x1 x2 hx2 g s r l)

end Cert.KernelIdeal.Block

end
-- ==== Proof.Matrix.lean ====
/-
  The band matrix as the program builds it: a sum of eleven matrices, each with one weight on one diagonal.
-/
module

public import proofs.«01_k».proof.Proof.Gen.KernelIdeal
public import proofs.«01_k».proof.Proof.Blur

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.Blur
open scoped BigOperators

/-- The word of weight `u`; zero from the eleventh on. -/
def tapWord : Nat → BitVec 32
  | 0 => 0x3A890000#32 | 1 => 0x3BFB0000#32 | 2 => 0x3D120000#32 | 3 => 0x3DE00000#32 | 4 => 0x3E5B0000#32
  | 5 => 0x3E880000#32 | 6 => 0x3E5A0000#32 | 7 => 0x3DE00000#32 | 8 => 0x3D130000#32 | 9 => 0x3BF90000#32
  | 10 => 0x3A870000#32 | _ => 0#32

/-- The word of weight `u` reads as the weight. -/
theorem ofBits_tapWord (u : Nat) : Ideal.ofBits .f32 (tapWord u) = tap u := by
  unfold tapWord tap tapNum
  split <;> (simp [Ideal.ofBits, Ideal.ieee, -EReal.coe_mul]) <;> norm_num

/-- The matrix with the word `w` where the column minus the row is `t`. -/
def diagonal (t w : BitVec 32) : FVec Ideal S512x512 .f32 :=
  select (cmpi .eq (subi (iotaInDim S512x512 32 1) (iotaInDim S512x512 32 0)) (broadcastInDim S512x512 ![] bcast_S_S512x512 (constantI S_ 32 t)))
    (broadcastInDim S512x512 ![] bcast_S_S512x512 (constant S_ .f32 w))
    (broadcastInDim S512x512 ![] bcast_S_S512x512 (constant S_ .f32 0x00000000#32))

/-- The sum of the eleven diagonals, from the lowest to the highest. -/
def diagonals : FVec Ideal S512x512 .f32 :=
  addf (addf (addf (addf (addf (addf (addf (addf (addf (addf (addf
    (broadcastInDim S512x512 ![] bcast_S_S512x512 (constant S_ .f32 0x00000000#32))
    (diagonal 4294967291#32 (tapWord 0))) (diagonal 4294967292#32 (tapWord 1))) (diagonal 4294967293#32 (tapWord 2)))
    (diagonal 4294967294#32 (tapWord 3))) (diagonal 4294967295#32 (tapWord 4))) (diagonal 0#32 (tapWord 5)))
    (diagonal 1#32 (tapWord 6))) (diagonal 2#32 (tapWord 7))) (diagonal 3#32 (tapWord 8)))
    (diagonal 4#32 (tapWord 9))) (diagonal 5#32 (tapWord 10))

/-- Column minus row, as words, is `u - 5` where the column plus five is the row plus `u`. -/
theorem distance_word (i j : Fin 512) (t : BitVec 32) (u : Nat) (hu : u < 11) (ht : t.toNat = (4294967291 + u) % 4294967296) :
    BitVec.ofNat 32 j.val - BitVec.ofNat 32 i.val = t ↔ j.val + 5 = i.val + u := by
  have hi := i.isLt
  have hj := j.isLt
  rw [← BitVec.toNat_inj, BitVec.toNat_sub, BitVec.toNat_ofNat, BitVec.toNat_ofNat, ht]
  omega

/-- A diagonal's entry. -/
theorem diagonal_apply (t : BitVec 32) (u : Nat) (hu : u < 11) (ht : t.toNat = (4294967291 + u) % 4294967296) (i j : Fin 512) :
    diagonal t (tapWord u) (ix2 i j) = if j.val + 5 = i.val + u then tap u else 0 := by
  have h := distance_word i j t u hu ht
  rw [← ofBits_tapWord u]
  generalize tapWord u = w
  unfold diagonal
  pointwise []
  have e : IntOp.cmpi .eq (IntOp.subi (BitVec.ofNat 32 j.val) (BitVec.ofNat 32 i.val)) t
      = BitVec.ofBool (decide (BitVec.ofNat 32 j.val - BitVec.ofNat 32 i.val = t)) := rfl
  rw [e]
  by_cases hd : j.val + 5 = i.val + u
  · rw [if_pos hd, decide_eq_true (h.mpr hd)]
    rfl
  · rw [if_neg hd, decide_eq_false fun hc => hd (h.mp hc)]
    rfl

/-- The sum of the diagonals is the band matrix. -/
theorem diagonals_apply (i j : Fin 512) : diagonals (ix2 i j) = band i.val j.val := by
  have e : diagonals (ix2 i j) = ∑ u ∈ Finset.range 11, if j.val + 5 = i.val + u then tap u else 0 := by
    simp only [Finset.sum_range_succ, Finset.sum_range_zero]
    rw [← diagonal_apply 4294967291#32 0 (by decide) (by decide), ← diagonal_apply 4294967292#32 1 (by decide) (by decide),
      ← diagonal_apply 4294967293#32 2 (by decide) (by decide), ← diagonal_apply 4294967294#32 3 (by decide) (by decide),
      ← diagonal_apply 4294967295#32 4 (by decide) (by decide), ← diagonal_apply 0#32 5 (by decide) (by decide),
      ← diagonal_apply 1#32 6 (by decide) (by decide), ← diagonal_apply 2#32 7 (by decide) (by decide),
      ← diagonal_apply 3#32 8 (by decide) (by decide), ← diagonal_apply 4#32 9 (by decide) (by decide),
      ← diagonal_apply 5#32 10 (by decide) (by decide)]
    unfold diagonals
    generalize diagonal 4294967291#32 (tapWord 0) = d0
    generalize diagonal 4294967292#32 (tapWord 1) = d1
    generalize diagonal 4294967293#32 (tapWord 2) = d2
    generalize diagonal 4294967294#32 (tapWord 3) = d3
    generalize diagonal 4294967295#32 (tapWord 4) = d4
    generalize diagonal 0#32 (tapWord 5) = d5
    generalize diagonal 1#32 (tapWord 6) = d6
    generalize diagonal 2#32 (tapWord 7) = d7
    generalize diagonal 3#32 (tapWord 8) = d8
    generalize diagonal 4#32 (tapWord 9) = d9
    generalize diagonal 5#32 (tapWord 10) = d10
    pointwise []
  rw [e]
  unfold band
  by_cases h : i.val ≤ j.val + 5
  · rw [if_pos h, Finset.sum_congr rfl (fun u _ => if_congr (show j.val + 5 = i.val + u ↔ j.val + 5 - i.val = u by omega) rfl rfl),
      Finset.sum_ite_eq]
    split
    · rfl
    · rename_i hn
      exact (tap_big _ (by have := Finset.mem_range.not.mp hn; omega)).symm
  · rw [if_neg h]
    exact Finset.sum_eq_zero fun u _ => if_neg (by omega)

end Cert.KernelIdeal.Block

end
-- ==== Proof.Entering.lean ====
/-
  The three arrays the pipeline reads: the two stacks of 48 images and the band matrix.
-/
module

public import proofs.«01_k».proof.Proof.Image
public import proofs.«01_k».proof.Proof.Matrix

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.Blur
open scoped BigOperators

/-- Image `n` of the 48 of an argument: channel `n % 3` of batch entry `n / 3`. -/
def picture (a : Vec Ideal S16x3x512x512 .f32) (n : Fin 48) (k j : Fin 512) : EReal :=
  a (ix4 ⟨n.val / 3, by have := n.isLt; omega⟩ ⟨n.val % 3, by omega⟩ k j)

/-- The 16 × 3 images regrouped as 48. -/
theorem regroup (a : Vec Ideal S16x3x512x512 .f32) (n : Fin 48) (k j : Fin 512) :
    shapeCast S48x512x512 a shapeCasts_S16x3x512x512_S48x512x512 (ix3 n k j) = picture a n k j := by
  unfold picture
  pointwise []

variable (m : (ℓ : Loc nD τ sig) → Buf (Elt Ideal) ℓ)

/-- The first stack of images is the first argument regrouped. -/
theorem V_main_v0 (c : Dev nD) :
    V m c main_v0 = shapeCast (α := EReal) S48x512x512 (m ((c : Thread nD τ).loc main_arg0)) shapeCasts_S16x3x512x512_S48x512x512 := by
  show StableHlo.after (List.flatten [hostOps0]) (fun b => m (c, b)) (Proc.devRef .tc main_v0) = _
  simp only [hostOps0, List.flatten_cons, List.flatten_nil, List.append_nil, List.cons_append, List.nil_append]
  after_results
  try rfl

/-- The second stack of images is the second argument regrouped. -/
theorem V_main_v1 (c : Dev nD) :
    V m c main_v1 = shapeCast (α := EReal) S48x512x512 (m ((c : Thread nD τ).loc main_arg1)) shapeCasts_S16x3x512x512_S48x512x512 := by
  show StableHlo.after (List.flatten [hostOps0]) (fun b => m (c, b)) (Proc.devRef .tc main_v1) = _
  simp only [hostOps0, List.flatten_cons, List.flatten_nil, List.append_nil, List.cons_append, List.nil_append]
  after_results
  try rfl

/-- The third array is the sum of the diagonals. -/
theorem V_main_v72 (c : Dev nD) : V m c main_v72 = diagonals := by
  show StableHlo.after (List.flatten [hostOps0]) (fun b => m (c, b)) (Proc.devRef .tc main_v72) = _
  simp only [hostOps0, List.flatten_cons, List.flatten_nil, List.append_nil, List.cons_append, List.nil_append]
  after_results
  rfl

end Cert.KernelIdeal.Block

end
-- ==== Proof.Final.lean ====
/-
  The array the pipeline fills: one similarity sum per image.
-/
module

public import proofs.«01_k».proof.Proof.Entering
public import Idealize.ShloMosaic.Lib.Pipeline.ValueKit

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.Blur
open scoped BigOperators

variable (m : (ℓ : Loc nD τ sig) → Buf (Elt Ideal) ℓ)

/-- Each point's block of each window: block `t` of the images and of the sums, the whole band matrix. -/
theorem block_index : ∀ t : Fin cfg0.N, win0_0.index t = ![t.val, 0, 0] ∧ win0_1.index t = ![t.val, 0, 0]
    ∧ win0_2.index t = ![0, 0] ∧ win0_3.index t = ![t.val, 0, 0] :=
  (by decide +kernel : ∀ t : Fin grid0.N, _)

/-- Image `g` of block `t` is image `6 t + g`. -/
def at6 (t : Fin cfg0.N) (g : Fin 6) : Fin 48 :=
  ⟨6 * t.val + g.val, by have h : t.val < 8 := t.isLt; have := g.isLt; omega⟩

/-- Block `t` of the first stack. -/
theorem iblk_x (c : Dev nD) (t : Fin cfg0.N) (g : Fin 6) (k j : Fin 512) :
    iblk m c 0 t (ix3 g k j) = picture (m ((c : Thread nD τ).loc main_arg0)) (at6 t g) k j := by
  have e : iblk m c 0 t (ix3 g k j) = V m c main_v0 (ix3 (at6 t g) k j) := by
    blk_simp [iblk]
    refine congrArg (V m c main_v0) ?_
    blk_ext [(block_index t).1, at6]
  rw [e, V_main_v0]
  exact regroup _ _ _ _

/-- Block `t` of the second stack. -/
theorem iblk_y (c : Dev nD) (t : Fin cfg0.N) (g : Fin 6) (k j : Fin 512) :
    iblk m c 1 t (ix3 g k j) = picture (m ((c : Thread nD τ).loc main_arg1)) (at6 t g) k j := by
  have e : iblk m c 1 t (ix3 g k j) = V m c main_v1 (ix3 (at6 t g) k j) := by
    blk_simp [iblk]
    refine congrArg (V m c main_v1) ?_
    blk_ext [(block_index t).2.1, at6]
  rw [e, V_main_v1]
  exact regroup _ _ _ _

/-- Every point reads the whole band matrix. -/
theorem iblk_band (c : Dev nD) (t : Fin cfg0.N) (i j : Fin 512) : iblk m c 2 t (ix2 i j) = band i.val j.val := by
  have e : iblk m c 2 t (ix2 i j) = V m c main_v72 (ix2 i j) := by
    blk_simp [iblk]
    refine congrArg (V m c main_v72) ?_
    blk_ext [(block_index t).2.2.1]
  rw [e, V_main_v72]
  exact diagonals_apply i j

/-- The sum of image `g` of point `t`. -/
theorem entry_iblk (c : Dev nD) (t : Fin cfg0.N) (g : Fin 6) :
    entry (mat (iblk m c 2 t)) (scr (iblk m c 0 t) (iblk m c 1 t) (iblk m c 2 t)) g (ix3 0 0 0)
      = simSum (picture (m ((c : Thread nD τ).loc main_arg0)) (at6 t g)) (picture (m ((c : Thread nD τ).loc main_arg1)) (at6 t g)) := by
  refine (entry_eq (iblk m c 0 t) (iblk m c 1 t) (iblk m c 2 t) (fun i j => iblk_band m c t i j) g).trans ?_
  exact congrArg₂ simSum (funext fun k => funext fun j => iblk_x m c t g k j) (funext fun k => funext fun j => iblk_y m c t g k j)

/-- The sums of the 48 images: entry `n` is the similarity sum of image `n`. -/
def sums (a b : Vec Ideal S16x3x512x512 .f32) : FVec Ideal S48x1x1 .f32 :=
  fun i => simSum (picture a ⟨(i 0).val, (i 0).isLt⟩) (picture b ⟨(i 0).val, (i 0).isLt⟩)

/-- A one-entry piece at cell `g` answers for the place `g`. -/
theorem cell_at (e : Fin 6 → FVec Ideal S1x1x1 .f32) (y : S6x1x1.Idx) (g : Fin 6) :
    View.RectAt (Val := Elt Ideal) (e := .f32) y (cell g) (e g) (e ⟨(y 0).val, (y 0).isLt⟩ (ix3 0 0 0)) := by
  intro x hx
  have h0 : (y 0).val = g.val := by
    rw [← hx, Rect.emb_apply]
    have h : (x 0).val < 1 := (x 0).isLt
    show g.val + 1 * (x 0).val = g.val
    omega
  have hg : (⟨(y 0).val, (y 0).isLt⟩ : Fin 6) = g := Fin.ext h0
  rw [hg]
  refine congrArg (e g) ?_
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => exact Fin.ext (by have h : (x 2).val < 1 := (x 2).isLt; show (x 2).val = 0; omega)

/-- The place `y` lies in the cell its first coordinate names. -/
theorem mem_cell (y : S6x1x1.Idx) (g : Fin 6) (h : (y 0).val = g.val) : y ∈ (cell g).set := by
  unfold cell
  rw [Rect.mem_set_unit]
  intro a
  match a with
  | ⟨0, _⟩ => exact ⟨Nat.le_of_eq h.symm, by show (y 0).val < g.val + 1; omega⟩
  | ⟨1, _⟩ => exact ⟨Nat.zero_le _, by have h : (y 1).val < 1 := (y 1).isLt; show (y 1).val < 0 + 1; omega⟩
  | ⟨2, _⟩ => exact ⟨Nat.zero_le _, by have h : (y 2).val < 1 := (y 2).isLt; show (y 2).val < 0 + 1; omega⟩

/-- Six one-entry pieces read at a place. -/
theorem canon_cells (e : Fin 6 → FVec Ideal S1x1x1 .f32) (y : S6x1x1.Idx) :
    View.canon (Val := Elt Ideal) (s := S6x1x1) (e := .f32)
      [⟨cell 5, e 5⟩, ⟨cell 4, e 4⟩, ⟨cell 3, e 3⟩, ⟨cell 2, e 2⟩, ⟨cell 1, e 1⟩, ⟨cell 0, e 0⟩] y
      = e ⟨(y 0).val, (y 0).isLt⟩ (ix3 0 0 0) := by
  refine View.canon_eq_of_allAt _ _ _ ?_ ?_
  · have h : (y 0).val < 6 := (y 0).isLt
    have hc : (y 0).val = 0 ∨ (y 0).val = 1 ∨ (y 0).val = 2 ∨ (y 0).val = 3 ∨ (y 0).val = 4 ∨ (y 0).val = 5 := by omega
    rcases hc with h | h | h | h | h | h
    · exact ⟨⟨cell 0, e 0⟩, by simp, mem_cell y 0 h⟩
    · exact ⟨⟨cell 1, e 1⟩, by simp, mem_cell y 1 h⟩
    · exact ⟨⟨cell 2, e 2⟩, by simp, mem_cell y 2 h⟩
    · exact ⟨⟨cell 3, e 3⟩, by simp, mem_cell y 3 h⟩
    · exact ⟨⟨cell 4, e 4⟩, by simp, mem_cell y 4 h⟩
    · exact ⟨⟨cell 5, e 5⟩, by simp, mem_cell y 5 h⟩
  · exact View.allAt_cons _ _ _ (cell_at e y 5) (View.allAt_cons _ _ _ (cell_at e y 4) (View.allAt_cons _ _ _ (cell_at e y 3)
      (View.allAt_cons _ _ _ (cell_at e y 2) (View.allAt_cons _ _ _ (cell_at e y 1) (View.allAt_cons _ _ _ (cell_at e y 0)
        (View.allAt_nil _ _))))))

/-- The block of sums point `t` leaves. -/
theorem outsAt_apply (c : Dev nD) (t : Fin cfg0.N) (y : S6x1x1.Idx) :
    outsAt0 m c t y = simSum (picture (m ((c : Thread nD τ).loc main_arg0)) (at6 t ⟨(y 0).val, (y 0).isLt⟩))
      (picture (m ((c : Thread nD τ).loc main_arg1)) (at6 t ⟨(y 0).val, (y 0).isLt⟩)) := by
  rw [outsAt_pieces]
  exact (canon_cells (fun g => entry (mat (iblk m c 2 t)) (scr (iblk m c 0 t) (iblk m c 1 t) (iblk m c 2 t)) g) y).trans
    (entry_iblk m c t _)

/-- The array of sums after the last point. -/
theorem final (c : Dev nD) :
    (dats m 0 c).arrAt 3 cfg0.N = sums (m ((c : Thread nD τ).loc main_arg0)) (m ((c : Thread nD τ).loc main_arg1)) := by
  refine (dats m 0 c).arrAt_eq_of_covers 3 _ (by decide +kernel) fun t _ y => ?_
  blk_simp
  rw [after0_3]
  refine (outsAt_apply m c t y).trans ?_
  have e : ∀ h, (⟨(((win0_3.blk t).view.emb y) 0).val, h⟩ : Fin 48) = at6 t ⟨(y 0).val, (y 0).isLt⟩ := by
    intro h
    apply Fin.ext
    show (((win0_3.blk t).view.emb y) 0).val = 6 * t.val + (y 0).val
    blk_simp [(block_index t).2.2.2]
    omega
  exact congrArg₂ (fun n n' => simSum (picture (m ((c : Thread nD τ).loc main_arg0)) n) (picture (m ((c : Thread nD τ).loc main_arg1)) n'))
    (e _).symm (e _).symm

end Cert.KernelIdeal.Block

end
-- ==== Proof.KernelRun.lean ====
/-
  The kernel program's run over the extended reals: its result in terms of the 48 similarity sums.
-/
module

public import proofs.«01_k».proof.Proof.Final

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen Cert.Blur
open scoped BigOperators

variable (m : (ℓ : Loc nD τ sig) → Buf (Elt Ideal) ℓ) (ρ : Dev nD → PrngReg)

/-- One minus the mean of the sums. -/
def loss (s : FVec Ideal S48x1x1 .f32) : FVec Ideal S_ .f32 :=
  subf (constant S_ .f32 0x3F800000#32)
    (Host.divf (Host.reduceAdd s (constant S_ .f32 0x00000000#32) reducesTo_S48x1x1_S_d0_1_2 h_S_) (constant S_ .f32 0x4B400000#32))

/-- The lines after the pipeline leave the loss of the array of sums. -/
theorem tail_main_v76 (c : Dev nD) :
    Pipeline.afterTail₀ cfgs (dats m) 0 (V0 m) [hostOps1] c main_v76
      = loss (sums (m ((c : Thread nD τ).loc main_arg0)) (m ((c : Thread nD τ).loc main_arg1))) := by
  have e : Pipeline.withArrays (cfgs 0).spec c (V0 m c) (fun w => (dats m 0 c).arrAt w (cfgs 0).N) (Proc.devRef .tc main_v73)
      = sums (m ((c : Thread nD τ).loc main_arg0)) (m ((c : Thread nD τ).loc main_arg1)) :=
    (Pipeline.withArrays_arr spec0 winFacts0.arr_inj c (V0 m c) (fun w => (dats m 0 c).arrAt w cfg0.N) 3).trans (final m c)
  unfold Pipeline.afterTail₀
  generalize Pipeline.withArrays (cfgs 0).spec c (V0 m c) (fun w => (dats m 0 c).arrAt w (cfgs 0).N) = W at e ⊢
  rw [← e]
  simp only [hostOps1, List.flatten_cons, List.flatten_nil, List.append_nil, List.cons_append, List.nil_append]
  after_results
  rfl

/-- Every run of the kernel program ends with the loss as its result and the arguments as launched. -/
theorem run_loss : θ_run defs (onTc (τ := τ) (main (F := Ideal))) ⟨m, fun _ => 0, ρ⟩ fun r => ∀ c : Dev nD,
      r.2.mem ((c.tc : Thread nD τ).loc main_v76)
        = loss (sums (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.rest_eq c main_v76 (by decide)).trans (tail_main_v76 m c),
      (h.rest_eq c main_arg0 (by decide)).trans (W_main_arg0 m _ c), (h.rest_eq c main_arg1 (by decide)).trans (W_main_arg1 m _ c)⟩)
    (run_main m ρ)

end Cert.KernelIdeal.Block

end
-- ==== Proof.Weights.lean ====
/-
  The reference's 11 × 11 window: the products of the weights.
-/
module

public import proofs.«01_k».proof.Proof.Blur
public import proofs.«01_k».proof.ReferenceIdeal

@[expose] public section

set_option maxRecDepth 16384

noncomputable section

namespace Cert.ReferenceIdeal.Window

open Idealize.ShloMosaic Idealize.ShloMosaic.TcCoe Idealize.ShloMosaic.Tactic
open Cert.ReferenceIdeal Cert.Blur

/-- The 32-bit word `b` is a positive normal number of value `N / 2^34`. -/
abbrev Holds (b : BitVec 32) (N : Nat) : Prop :=
  (b.extractLsb' 31 1 == 1#1) = false ∧ (b.extractLsb' 23 8).toNat ≠ 255 ∧ (b.extractLsb' 23 8).toNat ≠ 0
    ∧ (2 ^ 23 + (b.extractLsb' 0 23).toNat) * 2 ^ (b.extractLsb' 23 8).toNat = N * 2 ^ 116

/-- Such a word reads as its value. -/
theorem Holds.ofBits {b : BitVec 32} {N : Nat} (h : Holds b N) :
    Ideal.ofBits .f32 b = (((N : ℝ) / 2 ^ 34 : ℝ) : EReal) := by
  obtain ⟨hs, hx, hz, hv⟩ := h
  show Ideal.ieee 8 23 b = _
  unfold Ideal.ieee
  dsimp only
  rw [if_neg (show ¬(b.extractLsb' 23 8).toNat = 2 ^ 8 - 1 from hx), if_neg hz,
    show (b.extractLsb' (8 + 23) 1 == 1#1) = false from hs, if_neg Bool.false_ne_true]
  generalize (b.extractLsb' 23 8).toNat = e at hv ⊢
  generalize (b.extractLsb' 0 23).toNat = f at hv ⊢
  refine congrArg _ ?_
  have hr : ((2 ^ 23 + f : Nat) : ℝ) * 2 ^ e = (N : ℝ) * 2 ^ 116 := by exact_mod_cast hv
  have he : (2 : ℝ) ^ ((e : Int) - (2 ^ (8 - 1) - 1) - (23 : Nat)) = 2 ^ e / 2 ^ 150 := by
    rw [show ((e : Int) - (2 ^ (8 - 1) - 1) - (23 : Nat)) = (e : Int) - 150 by norm_num; ring, zpow_sub₀ two_ne_zero, zpow_natCast]
    norm_num
  rw [he, one_mul, ← mul_div_assoc, hr]
  norm_num [div_eq_div_iff]
  ring

/-- Each word of the window is the product of two weights. -/
theorem lit0_holds : ∀ u v : Fin 11, Holds (lit0 ⟨11 * u.val + v.val, by have := u.isLt; have := v.isLt; omega⟩)
    (tapNum u.val * tapNum (10 - v.val)) := by
  decide +kernel

/-- The window at row `u` and column `v` is the weight `u` times the weight `10 - v`. -/
theorem lit0_win (u v : Fin 11) : Ideal.ofBits .f32 (lit0 (S11x11.rowMajor (ix2 u v))) = win u.val v.val := by
  have e : S11x11.rowMajor (ix2 u v) = (⟨11 * u.val + v.val, by have := u.isLt; have := v.isLt; omega⟩ : Fin 121) := by
    apply Fin.ext
    refine (rowMajor_val2 (d := ![11, 11]) (ix2 u v) 11 rfl).trans ?_
    show u.val * 11 + v.val = 11 * u.val + v.val
    omega
  rw [show lit0 (S11x11.rowMajor (ix2 u v)) = lit0 _ from congrArg lit0 e, (lit0_holds u v).ofBits]
  unfold win tap
  rw [← EReal.coe_mul]
  refine congrArg _ ?_
  rw [Nat.cast_mul, div_mul_div_comm]
  norm_num

end Cert.ReferenceIdeal.Window

end
-- ==== Proof.Filter.lean ====
/-
  The reference's filter over the extended reals: padding, the 11 × 11 patches and their product with the window is the blur.
-/
module

public import proofs.«01_k».proof.Proof.Weights
public import proofs.«01_k».proof.Proof.Gen.ReferenceIdeal.Run
public import Idealize.ShloMosaic.Lib.TwoAxisContraction

@[expose] public section

set_option maxRecDepth 16384

noncomputable section

namespace Cert.ReferenceIdeal.Window

open Idealize.ShloMosaic Idealize.ShloMosaic.TcCoe Idealize.ShloMosaic.Tactic
open Cert.ReferenceIdeal Cert.ReferenceIdeal.Gen Cert.Blur
open scoped BigOperators

/-- The start indices of the patches: row `r` and offset `u` start at `r + u`. -/
def starts : IVec S512x11x1 32 :=
  broadcastInDim S512x11x1 ![0, 1] bcast_S512x11_S512x11x1_0_1
    (addi (broadcastInDim S512x11 ![0, 1] bcast_S512x1_S512x11_0_1 (broadcastInDim S512x1 ![0] bcast_S512_S512x1_0 (iotaInDim S512 32 0)))
      (broadcastInDim S512x11 ![0, 1] bcast_S1x11_S512x11_0_1 (broadcastInDim S1x11 ![1] bcast_S11_S1x11_1 (iotaInDim S11 32 0))))

/-- The start index as a word. -/
theorem starts_apply (r : Fin 512) (u : Fin 11) : starts (ix3 r u 0) = BitVec.ofNat 32 (r.val + u.val) := by
  unfold starts
  pointwise []
  exact BitVec.eq_of_toNat_eq (by simp [IntOp.addi, BitVec.toNat_add])

/-- Read signed and kept within the padded extent, it is the sum. -/
theorem starts_clamped (r : Fin 512) (u : Fin 11) : min (starts (ix3 r u 0)).toInt.toNat (522 - 1) = r.val + u.val := by
  have hr := r.isLt
  have hu := u.isLt
  rw [starts_apply, BitVec.toInt_eq_toNat_of_lt (by rw [BitVec.toNat_ofNat]; omega), BitVec.toNat_ofNat]
  omega

/-- The image padded by five zeros on each side of its two last axes. -/
def padded (x : FVec Ideal S16x3x512x512 .f32) : FVec Ideal S16x3x522x522 .f32 :=
  pad S16x3x522x522 ![0, 0, 5, 5] ![0, 0, 5, 5] ![0, 0, 0, 0] x (sitofp .f32 (constantI S_ 32 0#32)) pads_S16x3x512x512_S16x3x522x522_000_000_550_550 h_S_

/-- The padded image at a row and a column. -/
theorem padded_apply (x : FVec Ideal S16x3x512x512 .f32) (b : Fin 16) (h : Fin 3) (i j : Fin 522) :
    padded x (ix4 b h i j) = pad2 (fun k l => x (ix4 b h k l)) i.val j.val := by
  unfold padded pad2
  pointwise []
  have h0 : (FloatOps.sitofp FTy.f32 0#32 : Ideal .f32) = 0 := by
    show (((0#32 : BitVec 32).toInt : ℝ) : EReal) = 0
    simp
  refine dite_congr (propext (by omega)) (fun _ => rfl) (fun _ => h0)

/-- The patches along the rows: row `r` at offset `u` is row `r + u`. -/
theorem rows_apply (x : FVec Ideal S16x3x522x522 .f32) (b : Fin 16) (h : Fin 3) (r : Fin 512) (u : Fin 11) (j : Fin 522) :
    Host.gather gather_S16x3x522x522_S512x11x1_S16x3x512x11x522_014_2_n_n_2_2_1631522 x starts (ix5 b h r u j)
      = x (ix4 b h ⟨r.val + u.val, by have := r.isLt; have := u.isLt; omega⟩ j) := by
  unfold Host.gather
  refine congrArg x ?_
  funext a
  refine Fin.ext ?_
  match a with
  | ⟨0, _⟩ => show 0 + 0 + b.val = b.val; omega
  | ⟨1, _⟩ => show 0 + 0 + h.val = h.val; omega
  | ⟨2, _⟩ =>
    have e : gather_S16x3x522x522_S512x11x1_S16x3x512x11x522_014_2_n_n_2_2_1631522.siIdx (ix5 b h r u j) ⟨0, Nat.one_pos⟩ = ix3 r u 0 := by
      funext a
      match a with
      | ⟨0, _⟩ => rfl
      | ⟨1, _⟩ => rfl
      | ⟨2, _⟩ => rfl
    have := starts_clamped r u
    rw [← e] at this
    show min (starts (gather_S16x3x522x522_S512x11x1_S16x3x512x11x522_014_2_n_n_2_2_1631522.siIdx (ix5 b h r u j) ⟨0, Nat.one_pos⟩)).toInt.toNat (522 - 1) + 0 + 0 = r.val + u.val
    omega
  | ⟨3, _⟩ => show 0 + 0 + j.val = j.val; omega

/-- The patches along the columns: column `c` at offset `v` is column `c + v`. -/
theorem cols_apply (x : FVec Ideal S16x3x512x11x522 .f32) (b : Fin 16) (h : Fin 3) (r : Fin 512) (u : Fin 11) (c : Fin 512) (v : Fin 11) :
    Host.gather gather_S16x3x512x11x522_S512x11x1_S16x3x512x11x512x11_0123_4_n_n_4_2_163512111 x starts (ix6 b h r u c v)
      = x (ix5 b h r u ⟨c.val + v.val, by have := c.isLt; have := v.isLt; omega⟩) := by
  unfold Host.gather
  refine congrArg x ?_
  funext a
  refine Fin.ext ?_
  match a with
  | ⟨0, _⟩ => show 0 + 0 + b.val = b.val; omega
  | ⟨1, _⟩ => show 0 + 0 + h.val = h.val; omega
  | ⟨2, _⟩ => show 0 + 0 + r.val = r.val; omega
  | ⟨3, _⟩ => show 0 + 0 + u.val = u.val; omega
  | ⟨4, _⟩ =>
    have e : gather_S16x3x512x11x522_S512x11x1_S16x3x512x11x512x11_0123_4_n_n_4_2_163512111.siIdx (ix6 b h r u c v) ⟨0, Nat.one_pos⟩ = ix3 c v 0 := by
      funext a
      match a with
      | ⟨0, _⟩ => rfl
      | ⟨1, _⟩ => rfl
      | ⟨2, _⟩ => rfl
    have := starts_clamped c v
    rw [← e] at this
    show min (starts (gather_S16x3x512x11x522_S512x11x1_S16x3x512x11x512x11_0123_4_n_n_4_2_163512111.siIdx (ix6 b h r u c v) ⟨0, Nat.one_pos⟩)).toInt.toNat (522 - 1) + 0 + 0 = c.val + v.val
    omega

/-- The patches of a padded image along both axes. -/
def patches (x : FVec Ideal S16x3x522x522 .f32) : FVec Ideal S16x3x512x11x512x11 .f32 :=
  Host.gather gather_S16x3x512x11x522_S512x11x1_S16x3x512x11x512x11_0123_4_n_n_4_2_163512111
    (Host.gather gather_S16x3x522x522_S512x11x1_S16x3x512x11x522_014_2_n_n_2_2_1631522 x starts) starts

/-- The filter: patches times the window. -/
def filt (x : FVec Ideal S16x3x512x512 .f32) : FVec Ideal S16x3x512x512 .f32 :=
  Host.dotGeneral (F := Ideal) dot_S16x3x512x11x512x11_S11x11_S16x3x512x512_35_01_0124_n_n_n none (patches (padded x))
    (fun i => Ideal.ofBits .f32 (lit0 (S11x11.rowMajor i)))

/-- The product with the window sums over its rows and columns. -/
theorem dot_apply (p : FVec Ideal S16x3x512x11x512x11 .f32) (w : FVec Ideal S11x11 .f32) (b : Fin 16) (h : Fin 3) (r c : Fin 512) :
    Host.dotGeneral (F := Ideal) dot_S16x3x512x11x512x11_S11x11_S16x3x512x512_35_01_0124_n_n_n none p w (ix4 b h r c)
      = ∑ u : Fin 11, ∑ v : Fin 11, p (ix6 b h r u c v) * w (ix2 u v) := by
  pointwise []

/-- The filter is the blur of each image. -/
theorem filt_apply (x : FVec Ideal S16x3x512x512 .f32) (b : Fin 16) (h : Fin 3) (r c : Fin 512) :
    filt x (ix4 b h r c) = blur (fun i j => x (ix4 b h i j)) r.val c.val := by
  unfold filt blur
  rw [dot_apply]
  refine Finset.sum_congr rfl fun u _ => Finset.sum_congr rfl fun v _ => ?_
  unfold patches
  rw [cols_apply, rows_apply, padded_apply, lit0_win]

end Cert.ReferenceIdeal.Window

end
-- ==== Proof.ReferenceRun.lean ====
/-
  The reference program's result over the extended reals: one minus the mean over the channels of the mean similarity.
-/
module

public import proofs.«01_k».proof.Proof.Filter

@[expose] public section

set_option maxRecDepth 16384

noncomputable section

namespace Cert.ReferenceIdeal.Window

open Idealize.ShloMosaic Idealize.ShloMosaic.TcCoe Idealize.ShloMosaic.Tactic
open Cert.ReferenceIdeal Cert.ReferenceIdeal.Gen Cert.Blur
open scoped BigOperators

/-- A constant on every entry of the 16 × 3 maps. -/
def fill (w : BitVec 32) : FVec Ideal S16x3x512x512 .f32 := broadcastInDim S16x3x512x512 ![] bcast_S_S16x3x512x512 (constant S_ .f32 w)

/-- The similarity maps from the five filtered maps. -/
def simMap (m1 m2 e1 e2 e12 : FVec Ideal S16x3x512x512 .f32) : FVec Ideal S16x3x512x512 .f32 :=
  Host.divf
    (mulf (addf (mulf (fill 0x40000000#32) (mulf m1 m2)) (fill 0x38D1B717#32))
      (addf (mulf (fill 0x40000000#32) (subf e12 (mulf m1 m2))) (fill 0x3A6BEDFA#32)))
    (mulf (addf (addf (mulf m1 m1) (mulf m2 m2)) (fill 0x38D1B717#32))
      (addf (addf (subf e1 (mulf m1 m1)) (subf e2 (mulf m2 m2))) (fill 0x3A6BEDFA#32)))

/-- The similarity maps of two stacks of images. -/
def similarity (x y : FVec Ideal S16x3x512x512 .f32) : FVec Ideal S16x3x512x512 .f32 :=
  simMap (filt x) (filt y) (filt (mulf x x)) (filt (mulf y y)) (filt (mulf x y))

/-- One minus the mean over the channels of each channel's mean. -/
def lossOf (s : FVec Ideal S16x3x512x512 .f32) : FVec Ideal S_ .f32 :=
  subf (constant S_ .f32 0x3F800000#32)
    (Host.divf
      (Host.reduceAdd
        (Host.divf (Host.reduceAdd s (constant S_ .f32 0x00000000#32) reducesTo_S16x3x512x512_S3_d0_2_3 h_S_)
          (broadcastInDim S3 ![] bcast_S_S3 (constant S_ .f32 0x4A800000#32)))
        (constant S_ .f32 0x00000000#32) reducesTo_S3_S_d0 h_S_)
      (constant S_ .f32 0x40400000#32))

/-- The reference's result is the loss of the similarity maps. -/
theorem res_eq (m : (ℓ : Loc nD τ sig) → Buf (Elt Ideal) ℓ) (c : Dev nD) :
    Value.res_main_v86 m c = lossOf (similarity (m ((c.tc : Thread nD τ).loc main_arg0)) (m ((c.tc : Thread nD τ).loc main_arg1))) := by
  unfold Value.res_main_v86 lossOf similarity simMap filt patches padded starts fill
  rfl

/-- The similarity maps at an image, a row and a column. -/
theorem similarity_apply (x y : FVec Ideal S16x3x512x512 .f32) (b : Fin 16) (h : Fin 3) (r c : Fin 512) :
    similarity x y (ix4 b h r c) = simAt (fun i j => x (ix4 b h i j)) (fun i j => y (ix4 b h i j)) r.val c.val := by
  have e : ∀ z w : FVec Ideal S16x3x512x512 .f32, (fun i j : Fin 512 => mulf z w (ix4 b h i j)) = fun i j => z (ix4 b h i j) * w (ix4 b h i j) :=
    fun _ _ => rfl
  unfold similarity simAt
  simp only [← e]
  simp only [← filt_apply]
  generalize filt x = m1
  generalize filt y = m2
  generalize filt (mulf x x) = e1
  generalize filt (mulf y y) = e2
  generalize filt (mulf x y) = e12
  unfold simMap fill ssim
  pointwise []

/-- The indices of the maps that belong to channel `h`. -/
theorem drop_channel (i : S16x3x512x512.Idx) (h : Fin 3) :
    (reducesTo_S16x3x512x512_S3_d0_2_3 : S16x3x512x512.ReducesTo [0, 2, 3] S3).drop i = ix1 h
      ↔ ∃ k : Fin 16 × Fin 512 × Fin 512, ix4 k.1 h k.2.1 k.2.2 = i := by
  constructor
  · intro e
    refine ⟨(i 0, i 2, i 3), ?_⟩
    funext a; apply Fin.ext
    match a with
    | ⟨0, _⟩ => rfl
    | ⟨1, _⟩ => exact (congrArg Fin.val (congrFun e 0)).symm
    | ⟨2, _⟩ => rfl
    | ⟨3, _⟩ => rfl
  · rintro ⟨k, rfl⟩
    funext a; apply Fin.ext
    match a with
    | ⟨0, _⟩ => rfl

/-- The sum over everything but the channel. -/
theorem channel_sum (s : S16x3x512x512.Idx → EReal) (h : Fin 3) :
    Ideal.hostReduceAdd reducesTo_S16x3x512x512_S3_d0_2_3 s 0 (ix1 h)
      = ∑ b : Fin 16, ∑ r : Fin 512, ∑ c : Fin 512, s (ix4 b h r c) := by
  unfold Ideal.hostReduceAdd
  rw [zero_add, Finset.sum_filter_eq_sum_of_fiber (fun i => reducesTo_S16x3x512x512_S3_d0_2_3.drop i = ix1 h)
    (fun k : Fin 16 × Fin 512 × Fin 512 => ix4 k.1 h k.2.1 k.2.2)
    (fun _ _ e => Prod.ext (congrFun e 0) (Prod.ext (congrFun e 2) (congrFun e 3))) (fun i => drop_channel i h) s]
  simp only [Fintype.sum_prod_type]

/-- The loss at its one index. -/
theorem lossOf_apply (s : FVec Ideal S16x3x512x512 .f32) (i : S_.Idx) :
    lossOf s i = 1 - Ideal.div
      (∑ h : Fin 3, Ideal.div (∑ b : Fin 16, ∑ r : Fin 512, ∑ c : Fin 512, s (ix4 b h r c)) (Ideal.ofBits .f32 0x4A800000#32))
      (Ideal.ofBits .f32 0x40400000#32) := by
  unfold lossOf
  pointwise []
  simp only [channel_sum]

end Cert.ReferenceIdeal.Window

end
-- ==== Proof.Mean.lean ====
/-
  The mean of 48 sums taken at once is the mean over three channels of the means over sixteen entries.
-/
module

public import proofs.«01_k».proof.Proof.Blur

@[expose] public section

noncomputable section

namespace Cert.Blur

open Idealize.ShloMosaic
open scoped BigOperators

/-- The sum over 48 images is the sum over the channels of the sums over the batch entries. -/
theorem sum_images (f : Fin 16 → Fin 3 → EReal) :
    (∑ n : Fin 48, f ⟨n.val / 3, by have := n.isLt; omega⟩ ⟨n.val % 3, by omega⟩) = ∑ h : Fin 3, ∑ b : Fin 16, f b h := by
  rw [Finset.sum_comm, ← Fintype.sum_prod_type', ← Equiv.sum_comp (finProdFinEquiv (m := 16) (n := 3))]
  refine Finset.sum_congr rfl fun p _ => ?_
  have h2 := p.2.isLt
  refine congrArg₂ f (Fin.ext ?_) (Fin.ext ?_)
  · show (p.2.val + 3 * p.1.val) / 3 = p.1.val
    omega
  · show (p.2.val + 3 * p.1.val) % 3 = p.2.val
    omega

/-- The word of 4194304, the number of entries of a channel. -/
theorem ofBits_channel : Ideal.ofBits .f32 0x4A800000#32 = ((4194304 : ℝ) : EReal) := by
  simp [Ideal.ofBits, Ideal.ieee, -EReal.coe_mul]; norm_num

/-- The word of 3, the number of channels. -/
theorem ofBits_three : Ideal.ofBits .f32 0x40400000#32 = ((3 : ℝ) : EReal) := by
  simp [Ideal.ofBits, Ideal.ieee, -EReal.coe_mul]; norm_num

/-- The word of 12582912, the number of all entries. -/
theorem ofBits_all : Ideal.ofBits .f32 0x4B400000#32 = ((12582912 : ℝ) : EReal) := by
  simp [Ideal.ofBits, Ideal.ieee, -EReal.coe_mul]

/-- The mean of the channel means is the mean over everything. -/
theorem mean_of_means (f : Fin 16 → Fin 3 → EReal) :
    Ideal.div (∑ h : Fin 3, Ideal.div (∑ b : Fin 16, f b h) (Ideal.ofBits .f32 0x4A800000#32)) (Ideal.ofBits .f32 0x40400000#32)
      = Ideal.div (∑ n : Fin 48, f ⟨n.val / 3, by have := n.isLt; omega⟩ ⟨n.val % 3, by omega⟩) (Ideal.ofBits .f32 0x4B400000#32) := by
  rw [sum_images, ofBits_channel, ofBits_three, ofBits_all]
  simp only [Ideal.div_coe (show (4194304 : ℝ) ≠ 0 by norm_num), Ideal.div_coe (show (3 : ℝ) ≠ 0 by norm_num),
    Ideal.div_coe (show (12582912 : ℝ) ≠ 0 by norm_num)]
  simp only [mul_comm _ (((1 / 4194304 : ℝ)) : EReal)]
  rw [← coe_mul_sum _ _ (by norm_num), mul_comm _ ((1 / 3 : ℝ) : EReal), ← mul_assoc, ← EReal.coe_mul, mul_comm _ ((1 / 12582912 : ℝ) : EReal)]
  norm_num

end Cert.Blur

end
-- ==== Proof.Agree.lean ====
/-
  The kernel's result and the reference's result are one function of the two arguments.
-/
module

public import proofs.«01_k».proof.Proof.KernelRun
public import proofs.«01_k».proof.Proof.ReferenceRun
public import proofs.«01_k».proof.Proof.Mean

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.Blur
open scoped BigOperators

/-- The kernel's loss at its one index: one minus the sum of the 48 sums over the number of entries. -/
theorem loss_apply (s : FVec Ideal S48x1x1 .f32) (i : S_.Idx) :
    loss s i = 1 - Ideal.div (∑ n : Fin 48, s (ix3 n 0 0)) (Ideal.ofBits .f32 0x4B400000#32) := by
  unfold loss
  pointwise []
  exact congrArg (fun z => 1 - Ideal.div z (Ideal.ofBits .f32 0x4B400000#32))
    (Finset.sum_congr rfl fun n _ => (Fin.sum_univ_one _).trans (Fin.sum_univ_one _))

/-- One channel's similarity maps of the reference, summed over the pixels. -/
theorem pixel_sum (a b : FVec Ideal Cert.ReferenceIdeal.S16x3x512x512 .f32) (k : Fin 16) (h : Fin 3) :
    (∑ r : Fin 512, ∑ c : Fin 512, Cert.ReferenceIdeal.Window.similarity a b (ix4 k h r c))
      = simSum (fun i j => a (ix4 k h i j)) (fun i j => b (ix4 k h i j)) :=
  Finset.sum_congr rfl fun r _ => Finset.sum_congr rfl fun c _ => Cert.ReferenceIdeal.Window.similarity_apply a b k h r c

/-- The kernel's loss of the 48 sums is the reference's loss of the similarity maps. -/
theorem agree (a b : FVec Ideal S16x3x512x512 .f32) :
    loss (sums a b) = Cert.ReferenceIdeal.Window.lossOf (Cert.ReferenceIdeal.Window.similarity a b) := by
  funext i
  refine (loss_apply _ i).trans (Eq.trans ?_ (Cert.ReferenceIdeal.Window.lossOf_apply _ i).symm)
  simp only [pixel_sum]
  exact congrArg (fun z => 1 - z)
    (mean_of_means fun k h => simSum (fun i j => a (ix4 k h i j)) (fun i j => b (ix4 k h i j))).symm

end Cert.KernelIdeal.Block

end
-- ==== Proof.lean ====
/-
  The certificate's claims: the kernel as printed, its reading over the extended reals and the reference each run to the
  end with their arguments unchanged and every counter at zero; the reading over the extended reals replaced no
  operation; and the kernel's result and the reference's are equal as extended reals, for all arguments.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The kernel as printed ends with its arguments unchanged and every counter at zero. -/
theorem quiet_kernel : Cert.quiescent_Kernel (hKernel := Cert.Kernel.Gen.facts) := fun m ρ _ => Cert.Kernel.Gen.frame m ρ

/-- The kernel over the extended reals ends with its arguments unchanged and every counter at zero. -/
theorem quiet_ideal : Cert.quiescent_KernelIdeal (hKernelIdeal := Cert.KernelIdeal.Gen.facts) :=
  fun m ρ _ => Cert.KernelIdeal.Gen.frame m ρ

/-- The reference ends with its arguments unchanged; it has no counter. -/
theorem quiet_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The kernel and the reference, from equal arguments, end with equal results and their arguments unchanged. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Block.loss (Cert.KernelIdeal.Block.sums
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Block.run_loss m g, ?_⟩
  refine (θ_run Cert.ReferenceIdeal.defs _ _).mono (fun r h c => ⟨?_, (h c).2⟩) (Cert.ReferenceIdeal.Value.run (F := Ideal) m' g')
  refine (h c).1.trans ((Cert.ReferenceIdeal.Window.res_eq m' c).trans ?_)
  rw [(hagree c).1, (hagree c).2]
  exact (Cert.KernelIdeal.Block.agree _ _).symm

/-- All the claims. -/
theorem claim : Cert.Claim :=
  ⟨Cert.Kernel.Gen.facts, Cert.KernelIdeal.Gen.facts, Cert.ReferenceIdeal.Gen.facts,
    quiet_kernel, quiet_ideal, quiet_reference, trivial, equal_results⟩

end Cert.Proof

end
